-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S100000x2 : Shape := ⟨2, ![100000, 2]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2 : Shape := ⟨2, ![1, 2]⟩
abbrev S2 : Shape := ⟨1, ![2]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S2 : S_.BroadcastsInDim S2 (![] : Fin 0 → Fin S2.rank)
  reducesTo_S2_S_d0 : S2.ReducesTo [0] S_

variable [Facts]

def fn_part2 {F : FTy → Type} [FloatOps F] (main_arg27 : FVec F S1 .f32) (main_arg29 : FVec F S2 .f32) (main_v30 : IVec S_ 1) (main_cst_14 : FVec F S_ .f32) : IVec S_ 1 :=
  let main_v31 : FVec F S1 .f32 := broadcastInDim S1 ![] bcast_S_S1 main_cst_14
  let main_v32 : IVec S1 1 := cmpf .oeq main_arg27 main_v31
  let main_c_15 : IVec S_ 1 := constantI S_ 1 1#1
  let main_v33 : IVec S_ 1 := (fun x v => Host.reduce IntOp.andi x v reducesTo_S1_S_d0 h_S_) main_v32 main_c_15
  let main_v34 : IVec S_ 1 := andi main_v30 main_v33
  let main_cst_16 : FVec F S_ .f32 := constant S_ .f32 0x00000000#32
  let main_v35 : FVec F S2 .f32 := broadcastInDim S2 ![] bcast_S_S2 main_cst_16
  let main_v36 : IVec S2 1 := cmpf .oeq main_arg29 main_v35
  let main_c_17 : IVec S_ 1 := constantI S_ 1 1#1
  let main_v37 : IVec S_ 1 := (fun x v => Host.reduce IntOp.andi x v reducesTo_S2_S_d0 h_S_) main_v36 main_c_17
  let main_v38 : IVec S_ 1 := andi main_v34 main_v37
  main_v38

def fn_part1 {F : FTy → Type} [FloatOps F] (main_arg15 : FVec F S128 .f32) (main_arg17 : FVec F S128 .f32) (main_arg23 : FVec F S128 .f32) (main_arg25 : FVec F S128 .f32) (main_arg27 : FVec F S1 .f32) (main_arg29 : FVec F S2 .f32) (main_v14 : IVec S_ 1) (main_cst_6 : FVec F S_ .f32) : IVec S_ 1 :=
  let main_v15 : FVec F S128 .f32 := broadcastInDim S128 ![] bcast_S_S128 main_cst_6
  let main_v16 : IVec S128 1 := cmpf .oeq main_arg15 main_v15
  let main_c_7 : IVec S_ 1 := constantI S_ 1 1#1
  let main_v17 : IVec S_ 1 := (fun x v => Host.reduce IntOp.andi x v reducesTo_S128_S_d0 h_S_) main_v16 main_c_7
  let main_v18 : IVec S_ 1 := andi main_v14 main_v17
  let main_cst_8 : FVec F S_ .f32 := constant S_ .f32 0x00000000#32
  let main_v19 : FVec F S128 .f32 := broadcastInDim S128 ![] bcast_S_S128 main_cst_8
  let main_v20 : IVec S128 1 := cmpf .oeq main_arg17 main_v19
  let main_c_9 : IVec S_ 1 := constantI S_ 1 1#1
  let main_v21 : IVec S_ 1 := (fun x v => Host.reduce IntOp.andi x v reducesTo_S128_S_d0 h_S_) main_v20 main_c_9
  let main_v22 : IVec S_ 1 := andi main_v18 main_v21
  let main_cst_10 : FVec F S_ .f32 := constant S_ .f32 0x00000000#32
  let main_v23 : FVec F S128 .f32 := broadcastInDim S128 ![] bcast_S_S128 main_cst_10
  let main_v24 : IVec S128 1 := cmpf .oeq main_arg23 main_v23
  let main_c_11 : IVec S_ 1 := constantI S_ 1 1#1
  let main_v25 : IVec S_ 1 := (fun x v => Host.reduce IntOp.andi x v reducesTo_S128_S_d0 h_S_) main_v24 main_c_11
  let main_v26 : IVec S_ 1 := andi main_v22 main_v25
  let main_cst_12 : FVec F S_ .f32 := constant S_ .f32 0x00000000#32
  let main_v27 : FVec F S128 .f32 := broadcastInDim S128 ![] bcast_S_S128 main_cst_12
  let main_v28 : IVec S128 1 := cmpf .oeq main_arg25 main_v27
  let main_c_13 : IVec S_ 1 := constantI S_ 1 1#1
  let main_v29 : IVec S_ 1 := (fun x v => Host.reduce IntOp.andi x v reducesTo_S128_S_d0 h_S_) main_v28 main_c_13
  let main_v30 : IVec S_ 1 := andi main_v26 main_v29
  let main_cst_14 : FVec F S_ .f32 := constant S_ .f32 0x00000000#32
  fn_part2 (F := F) main_arg27 main_arg29 main_v30 main_cst_14

def fn {F : FTy → Type} [FloatOps F] (main_arg0 : FVec F S100000x2 .f32) (main_arg1 : IVec S2x3200000 32) (main_arg2 : FVec F S2x32 .f32) (main_arg3 : FVec F S32 .f32) (main_arg4 : FVec F S32x32 .f32) (main_arg5 : FVec F S32 .f32) (main_arg6 : FVec F S2x32 .f32) (main_arg7 : FVec F S32 .f32) (main_arg8 : FVec F S32x32 .f32) (main_arg9 : FVec F S32 .f32) (main_arg10 : FVec F S2x32 .f32) (main_arg11 : FVec F S32 .f32) (main_arg12 : FVec F S32x32 .f32) (main_arg13 : FVec F S32 .f32) (main_arg14 : FVec F S32x128 .f32) (main_arg15 : FVec F S128 .f32) (main_arg16 : FVec F S128x128 .f32) (main_arg17 : FVec F S128 .f32) (main_arg18 : FVec F S32x128 .f32) (main_arg19 : FVec F S128 .f32) (main_arg20 : FVec F S128x128 .f32) (main_arg21 : FVec F S128 .f32) (main_arg22 : FVec F S32x128 .f32) (main_arg23 : FVec F S128 .f32) (main_arg24 : FVec F S128x128 .f32) (main_arg25 : FVec F S128 .f32) (main_arg26 : FVec F S128x1 .f32) (main_arg27 : FVec F S1 .f32) (main_arg28 : FVec F S1x2 .f32) (main_arg29 : FVec F S2 .f32) : IVec S_ 1 :=
  let main_cst : FVec F S_ .f32 := constant S_ .f32 0x00000000#32
  let main_v0 : FVec F S32 .f32 := broadcastInDim S32 ![] bcast_S_S32 main_cst
  let main_v1 : IVec S32 1 := cmpf .oeq main_arg3 main_v0
  let main_c : IVec S_ 1 := constantI S_ 1 1#1
  let main_v2 : IVec S_ 1 := (fun x v => Host.reduce IntOp.andi x v reducesTo_S32_S_d0 h_S_) main_v1 main_c
  let main_cst_0 : FVec F S_ .f32 := constant S_ .f32 0x00000000#32
  let main_v3 : FVec F S32 .f32 := broadcastInDim S32 ![] bcast_S_S32 main_cst_0
  let main_v4 : IVec S32 1 := cmpf .oeq main_arg5 main_v3
  let main_c_1 : IVec S_ 1 := constantI S_ 1 1#1
  let main_v5 : IVec S_ 1 := (fun x v => Host.reduce IntOp.andi x v reducesTo_S32_S_d0 h_S_) main_v4 main_c_1
  let main_v6 : IVec S_ 1 := andi main_v2 main_v5
  let main_cst_2 : FVec F S_ .f32 := constant S_ .f32 0x00000000#32
  let main_v7 : FVec F S32 .f32 := broadcastInDim S32 ![] bcast_S_S32 main_cst_2
  let main_v8 : IVec S32 1 := cmpf .oeq main_arg11 main_v7
  let main_c_3 : IVec S_ 1 := constantI S_ 1 1#1
  let main_v9 : IVec S_ 1 := (fun x v => Host.reduce IntOp.andi x v reducesTo_S32_S_d0 h_S_) main_v8 main_c_3
  let main_v10 : IVec S_ 1 := andi main_v6 main_v9
  let main_cst_4 : FVec F S_ .f32 := constant S_ .f32 0x00000000#32
  let main_v11 : FVec F S32 .f32 := broadcastInDim S32 ![] bcast_S_S32 main_cst_4
  let main_v12 : IVec S32 1 := cmpf .oeq main_arg13 main_v11
  let main_c_5 : IVec S_ 1 := constantI S_ 1 1#1
  let main_v13 : IVec S_ 1 := (fun x v => Host.reduce IntOp.andi x v reducesTo_S32_S_d0 h_S_) main_v12 main_c_5
  let main_v14 : IVec S_ 1 := andi main_v10 main_v13
  let main_cst_6 : FVec F S_ .f32 := constant S_ .f32 0x00000000#32
  fn_part1 (F := F) main_arg15 main_arg17 main_arg23 main_arg25 main_arg27 main_arg29 main_v14 main_cst_6
-- ==== Kernel.lean ====
abbrev S100000x2 : Shape := ⟨2, ![100000, 2]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2 : Shape := ⟨2, ![1, 2]⟩
abbrev S2 : Shape := ⟨1, ![2]⟩
abbrev S32x2 : Shape := ⟨2, ![32, 2]⟩
abbrev S_ : Shape := ⟨0, ![]⟩
abbrev S64x2 : Shape := ⟨2, ![64, 2]⟩
abbrev S128x32 : Shape := ⟨2, ![128, 32]⟩
abbrev S256x32 : Shape := ⟨2, ![256, 32]⟩
abbrev S1x128 : Shape := ⟨2, ![1, 128]⟩
abbrev S1x1 : Shape := ⟨2, ![1, 1]⟩
abbrev S2x1 : Shape := ⟨2, ![2, 1]⟩
abbrev S2x100000 : Shape := ⟨2, ![2, 100000]⟩
abbrev S2x25088 : Shape := ⟨2, ![2, 25088]⟩
abbrev S64x25088 : Shape := ⟨2, ![64, 25088]⟩
abbrev S32x25088 : Shape := ⟨2, ![32, 25088]⟩
abbrev S256x25088 : Shape := ⟨2, ![256, 25088]⟩
abbrev S128x25088 : Shape := ⟨2, ![128, 25088]⟩
abbrev S1x25088 : Shape := ⟨2, ![1, 25088]⟩

abbrev nBuf : Space → Nat
  | .hbm => 58
  | .vmem => 8
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S2x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S2x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S32x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S32x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x1, .f32⟩
  | .hbm, ⟨27, _⟩ => ⟨S1, .f32⟩
  | .hbm, ⟨28, _⟩ => ⟨S1x2, .f32⟩
  | .hbm, ⟨29, _⟩ => ⟨S2, .f32⟩
  | .hbm, ⟨30, _⟩ => ⟨S32x2, .f32⟩
  | .hbm, ⟨31, _⟩ => ⟨S_, .f32⟩
  | .hbm, ⟨32, _⟩ => ⟨S32x2, .f32⟩
  | .hbm, ⟨33, _⟩ => ⟨S32x2, .f32⟩
  | .hbm, ⟨34, _⟩ => ⟨S32x2, .f32⟩
  | .hbm, ⟨35, _⟩ => ⟨S64x2, .f32⟩
  | .hbm, ⟨36, _⟩ => ⟨S128x32, .f32⟩
  | .hbm, ⟨37, _⟩ => ⟨S_, .f32⟩
  | .hbm, ⟨38, _⟩ => ⟨S128x32, .f32⟩
  | .hbm, ⟨39, _⟩ => ⟨S128x32, .f32⟩
  | .hbm, ⟨40, _⟩ => ⟨S128x32, .f32⟩
  | .hbm, ⟨41, _⟩ => ⟨S_, .f32⟩
  | .hbm, ⟨42, _⟩ => ⟨S128x32, .f32⟩
  | .hbm, ⟨43, _⟩ => ⟨S128x32, .f32⟩
  | .hbm, ⟨44, _⟩ => ⟨S256x32, .f32⟩
  | .hbm, ⟨45, _⟩ => ⟨S1x128, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S2, .f32⟩
  | .hbm, ⟨54, _⟩ => ⟨S2x1, .f32⟩
  | .hbm, ⟨55, _⟩ => ⟨S2x100000, .f32⟩
  | .hbm, ⟨56, _⟩ => ⟨S2x100000, .f32⟩
  | .hbm, ⟨57, _⟩ => ⟨S100000x2, .f32⟩
  | .local _ .vmem, ⟨0, _⟩ => ⟨S2x25088, .f32⟩
  | .local _ .vmem, ⟨1, _⟩ => ⟨S2x25088, .f32⟩
  | .local _ .vmem, ⟨2, _⟩ => ⟨S64x2, .f32⟩
  | .local _ .vmem, ⟨3, _⟩ => ⟨S256x32, .f32⟩
  | .local _ .vmem, ⟨4, _⟩ => ⟨S1x128, .f32⟩
  | .local _ .vmem, ⟨5, _⟩ => ⟨S2x1, .f32⟩
  | .local _ .vmem, ⟨6, _⟩ => ⟨S2x25088, .f32⟩
  | .local _ .vmem, ⟨7, _⟩ => ⟨S2x25088, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x25088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x2 : Shape := ⟨2, ![100000, 2]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2 : Shape := ⟨2, ![1, 2]⟩
abbrev S2 : Shape := ⟨1, ![2]⟩
abbrev S_ : Shape := ⟨0, ![]⟩
abbrev S3200000 : Shape := ⟨1, ![3200000]⟩
abbrev S100000x32 : Shape := ⟨2, ![100000, 32]⟩
abbrev S1x32 : Shape := ⟨2, ![1, 32]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩
abbrev S2x2 : Shape := ⟨2, ![2, 2]⟩

abbrev nBuf : Space → Nat
  | .hbm => 163
  | .vmem => 0
  | .smem => 0
  | _ => 0

abbrev hbmTy0_0 (i : Nat) : BufTy := match i % 128 with
  | 0 => ⟨S100000x2, .f32⟩
  | 1 => ⟨S2x3200000, .i32⟩
  | 2 => ⟨S2x32, .f32⟩
  | 3 => ⟨S32, .f32⟩
  | 4 => ⟨S32x32, .f32⟩
  | 5 => ⟨S32, .f32⟩
  | 6 => ⟨S2x32, .f32⟩
  | 7 => ⟨S32, .f32⟩
  | 8 => ⟨S32x32, .f32⟩
  | 9 => ⟨S32, .f32⟩
  | 10 => ⟨S2x32, .f32⟩
  | 11 => ⟨S32, .f32⟩
  | 12 => ⟨S32x32, .f32⟩
  | 13 => ⟨S32, .f32⟩
  | 14 => ⟨S32x128, .f32⟩
  | 15 => ⟨S128, .f32⟩
  | 16 => ⟨S128x128, .f32⟩
  | 17 => ⟨S128, .f32⟩
  | 18 => ⟨S32x128, .f32⟩
  | 19 => ⟨S128, .f32⟩
  | 20 => ⟨S128x128, .f32⟩
  | 21 => ⟨S128, .f32⟩
  | 22 => ⟨S32x128, .f32⟩
  | 23 => ⟨S128, .f32⟩
  | 24 => ⟨S128x128, .f32⟩
  | 25 => ⟨S128, .f32⟩
  | 26 => ⟨S128x1, .f32⟩
  | 27 => ⟨S1, .f32⟩
  | 28 => ⟨S1x2, .f32⟩
  | 29 => ⟨S2, .f32⟩
  | 30 => ⟨S_, .f32⟩
  | 31 => ⟨S3200000, .f32⟩
  | 32 => ⟨S_, .f32⟩
  | 33 => ⟨S100000x32, .f32⟩
  | 34 => ⟨S100000x32, .f32⟩
  | 35 => ⟨S1x32, .f32⟩
  | 36 => ⟨S100000x32, .f32⟩
  | 37 => ⟨S100000x32, .f32⟩
  | 38 => ⟨S100000x32, .f32⟩
  | 39 => ⟨S1x32, .f32⟩
  | 40 => ⟨S100000x32, .f32⟩
  | 41 => ⟨S100000x32, .f32⟩
  | 42 => ⟨S100000x32, .f32⟩
  | 43 => ⟨S100000x32, .f32⟩
  | 44 => ⟨S100000x32, .f32⟩
  | 45 => ⟨S_, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x32, .f32⟩
  | 52 => ⟨S1x32, .f32⟩
  | 53 => ⟨S100000x32, .f32⟩
  | 54 => ⟨S100000x32, .f32⟩
  | 55 => ⟨S100000x32, .f32⟩
  | 56 => ⟨S1x32, .f32⟩
  | 57 => ⟨S100000x32, .f32⟩
  | 58 => ⟨S100000x32, .f32⟩
  | 59 => ⟨S100000x32, .f32⟩
  | 60 => ⟨S100000x32, .f32⟩
  | 61 => ⟨S100000x32, .f32⟩
  | 62 => ⟨S_, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S100000x32, .f32⟩
  | 73 => ⟨S100000x32, .f32⟩
  | 74 => ⟨S1x32, .f32⟩
  | 75 => ⟨S100000x32, .f32⟩
  | 76 => ⟨S100000x32, .f32⟩
  | 77 => ⟨S100000x32, .f32⟩
  | 78 => ⟨S100000x32, .f32⟩
  | 79 => ⟨S100000x32, .f32⟩
  | 80 => ⟨S_, .f32⟩
  | 81 => ⟨S100000x32, .f32⟩
  | 82 => ⟨S100000x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S_, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x2, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S100000x128, .f32⟩
  | 13 => ⟨S100000x128, .f32⟩
  | 14 => ⟨S100000x1, .f32⟩
  | 15 => ⟨S1x1, .f32⟩
  | 16 => ⟨S100000x1, .f32⟩
  | 17 => ⟨S100000x1, .f32⟩
  | 18 => ⟨S100000x2, .f32⟩
  | 19 => ⟨S1x2, .f32⟩
  | 20 => ⟨S100000x2, .f32⟩
  | 21 => ⟨S100000x2, .f32⟩
  | 22 => ⟨S2x2, .i32⟩
  | 23 => ⟨S2x2, .i32⟩
  | 24 => ⟨S_, .i32⟩
  | 25 => ⟨S2x2, .i32⟩
  | 26 => ⟨S2x2, .i32⟩
  | 27 => ⟨S2x2, .i1⟩
  | 28 => ⟨S2x2, .f32⟩
  | 29 => ⟨S1x2, .f32⟩
  | 30 => ⟨S1x2, .f32⟩
  | 31 => ⟨S1x2, .f32⟩
  | 32 => ⟨S2x2, .f32⟩
  | 33 => ⟨S2x2, .f32⟩
  | 34 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call0_cst : Ref sig .tc := ⟨.hbm, 85, rfl⟩
abbrev main_call0_v0 : Ref sig .tc := ⟨.hbm, 86, rfl⟩
abbrev main_v48 : Ref sig .tc := ⟨.hbm, 87, rfl⟩
abbrev main_cst_6 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_cst_8 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_9 : Ref sig .tc := ⟨.hbm, 118, rfl⟩
abbrev main_v76 : Ref sig .tc := ⟨.hbm, 119, rfl⟩
abbrev main_v77 : Ref sig .tc := ⟨.hbm, 120, rfl⟩
abbrev main_cst_10 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_11 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩

abbrev nD : Nat := 1
abbrev τ : Topo := Topo.v7x

variable {F : FTy → Type} [FloatOps F]
-- ==== Proof.KernelFrame.lean ====
/- The frame of the compiled program, at any reading of the floats: @main ends, every argument array holds what it was
   launched with, and every semaphore counter is zero.

   The last block of the transposed input overhangs its array, so 352 columns of its buffer hold values no program text
   determines. The output columns computed from them are cut off again by the write-back. Nothing is claimed here of the
   output array, so its window is handed over and taken back at any contents. -/
module

public import proofs.«01_k».proof.Proof.KernelBody

@[expose] public section

set_option maxRecDepth 16384

noncomputable section

namespace Cert.Kernel.Node

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the transposed input at point `t`, as wide as the staging buffer: the array's columns where there are any,
    zero beyond. -/
def wideX (c : Dev nD) (t : Fin cfg0.N) : Vec F S2x25088 .f32 :=
  win0_0.fill (grid0.coords t) (fun _ => Scalar.ofBits .f32 0#32) (iblk m c 0 t)

/-- The windows whose contents are not followed: the output's alone. -/
def untracked (w : Fin cfg0.W) : Bool := w == (5 : Fin 6)

/-- What the pipeline is told of each window: its array as the region finds it, and what the body leaves in its buffer. The
    output's entry is never read. -/
def dats (_ : Fin 1) (c : Dev nD) : Dat τ (Elt F) Unit ℕ (UR sig nD τ) ℕ cfg0 c where
  A w := V m c (Pipeline.arrRef spec0 w)
  after w t := match w with
    | ⟨0, _⟩ => wideX m c t
    | ⟨1, _⟩ => iblk m c 1 t
    | ⟨2, _⟩ => iblk m c 2 t
    | ⟨3, _⟩ => iblk m c 3 t
    | ⟨4, _⟩ => iblk m c 4 t
    | ⟨5, _⟩ => fun _ => Scalar.ofBits .f32 0#32
  Φ _ := Pipeline.ΦA spec0 c
  q _ := fullShare
  owed _ := 0

theorem dats_A (c : Dev nD) (w : Fin cfg0.W) : (dats m 0 c).A w = V m c (Pipeline.arrRef spec0 w) := by
  dsimp only [dats]

theorem after_x (c : Dev nD) (t : Fin cfg0.N) : (dats m 0 c).after 0 t = wideX m c t := by dsimp only [dats]
theorem after_w₁ (c : Dev nD) (t : Fin cfg0.N) : (dats m 0 c).after 1 t = iblk m c 1 t := by dsimp only [dats]
theorem after_w₂ (c : Dev nD) (t : Fin cfg0.N) : (dats m 0 c).after 2 t = iblk m c 2 t := by dsimp only [dats]
theorem after_l (c : Dev nD) (t : Fin cfg0.N) : (dats m 0 c).after 3 t = iblk m c 3 t := by dsimp only [dats]
theorem after_g (c : Dev nD) (t : Fin cfg0.N) : (dats m 0 c).after 4 t = iblk m c 4 t := by dsimp only [dats]

/-- The body finds the transposed input's buffer just fetched: the block on the columns inside the array, any `d` beyond. -/
theorem before_x (c : Dev nD) (t : Fin cfg0.N) (d) :
    (dats m 0 c).before 0 t d = win0_0.fill (grid0.coords t) d (iblk m c 0 t) := by
  unfold Dat.before; rw [if_pos (fetch0_0 t)]; rfl
/-- And the four weight buffers at their arrays. -/
theorem before_w₁ (c : Dev nD) (t : Fin cfg0.N) (d) : (dats m 0 c).before 1 t d = iblk m c 1 t :=
  before0_1_of m (dats m 0 c) (dats_A m c 1) (after_w₁ m c) t d
theorem before_w₂ (c : Dev nD) (t : Fin cfg0.N) (d) : (dats m 0 c).before 2 t d = iblk m c 2 t :=
  before0_2_of m (dats m 0 c) (dats_A m c 2) (after_w₂ m c) t d
theorem before_l (c : Dev nD) (t : Fin cfg0.N) (d) : (dats m 0 c).before 3 t d = iblk m c 3 t :=
  before0_3_of m (dats m 0 c) (dats_A m c 3) (after_l m c) t d
theorem before_g (c : Dev nD) (t : Fin cfg0.N) (d) : (dats m 0 c).before 4 t d = iblk m c 4 t :=
  before0_4_of m (dats m 0 c) (dats_A m c 4) (after_g m c) t d

/-- The body call of point `t`, as the pipeline's table of bodies gives it. -/
theorem body_row (t : Fin cfg0.N) : defs₀ (F := F) .tc cfg0.body (cfg0.bodyArgs t (cfg0.slots t)) = bodyAt0 t := by
  unfold defs₀; rw [Defs.onTc_tc]

/-- The body keeps its side of the pipeline's contract at every point: it returns each input buffer as it found it, which on
    the columns inside the array is what `dats` says, and the output's buffer at something. -/
theorem body_obligation (c : Dev nD) :
    BodyObligationLoose (dats (F := F) m 0 c) (defs₀ (F := F)) Variants.none () Set.univ untracked := fun t => by
  rw [bigSep_W0, bigSep_W0, body_row]
  have hx : win0_0.cut (grid0.coords t) (wideX m c t) = iblk m c 0 t := win0_0.cut_fill _ _ _
  simp only [untracked, Fin.reduceBEq]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%y, H5⟩⟩
  rw [before_x m c t d0, before_w₁ m c t d1, before_w₂ m c t d2, before_l m c t d3, before_g m c t d4]
  unfold bodyAt0
  iapply (body_runs c Set.univ (grid0.coords t) _ _ _ _ _ _ _ _ _ _ _ _ (win0_0.fill (grid0.coords t) d0 (iblk m c 0 t))
    (iblk m c 1 t) (iblk m c 2 t) (iblk m c 3 t) (iblk m c 4 t) y _)
  unfold buffers
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0 (win0_0.cut (grid0.coords t) (wideX m c t)))
    rw [hx]
  isplitl [H1]; · iexact H1
  isplitl [H2]; · iexact H2
  isplitl [H3]; · iexact H3
  isplitl [H4]; · iexact H4
  iexists _; iexact H5

/-- The one line after the region writes the result array only. -/
theorem tail_writes : ∀ ops ∈ ([hostOps1] : List (List (HloOp τ sig (Elt F)))), ∀ op ∈ ops,
    ∀ b : Ref sig .tc, Proc.devRef .tc b ∈ op.writes → b ∈ ({main_v24} : Finset (Ref sig .tc)) := by
  intro ops hops op hop b hb
  obtain rfl := List.mem_singleton.mp hops
  obtain rfl := List.mem_singleton.mp hop
  rw [StableHlo.unary_writes, Finset.mem_singleton] at hb
  exact Finset.mem_singleton.mpr (Proc.devRef_injective _ hb)

set_option backward.isDefEq.respectTransparency.types false in
set_option maxHeartbeats 800000 in
/-- Every run of @main ends with every buffer but the pipeline's arrays and the result as the region found it, and all
    counters at zero. -/
theorem run_rest : θ_run defs (onTc (τ := τ) (main (F := F))) (s₀ m ρ) (fun r =>
    Pipeline.RDat.FramePostR cfg0 (fun c => (dats m 0 c).toRForget untracked) {main_v24} (V m) r ∧ r.2.sem = fun _ => 0) :=
  Pipeline.θ_run_frame_around_T_forget (Q' := _) cfgs (dats m) (0 : Fin 1) launch0 defs₀ Variants.none untracked {main_v24} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := dats_A m) (hΦ := fun _ _ => rfl)

/-- A buffer that is neither an array of the pipeline nor the result, and that no host line before the region writes, ends as
    launched. -/
theorem kept {r : PUnit × MemSt nD τ sig (Elt F)}
    (h : Pipeline.RDat.FramePostR cfg0 (fun c => (dats m 0 c).toRForget untracked) {main_v24} (V m) r) (c : Dev nD) (b : Ref sig .tc)
    (hs : b.isScoped = false) (ha : ∀ w, Pipeline.arrRef spec0 w ≠ b) (ho : b ∉ ({main_v24} : Finset (Ref sig .tc)))
    (hV : V m c b = m ((c : Thread nD τ).loc b)) : r.2.mem ((c : Thread nD τ).loc b) = m ((c : Thread nD τ).loc b) :=
  ((h c).2 b (Finset.mem_sdiff.mpr ⟨Pipeline.mem_restRefs_of b hs ha, ho⟩)).trans hV

end Cert.Kernel.Node
-- ==== Proof.IdealBody.lean ====
/- What one run of the kernel's body does to its six staging buffers, for the idealized program: the five input buffers
   keep their contents and the output buffer ends at the payload of what the inputs hold. Everything here is at any
   reading of the floats. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Node

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two zero offsets every access of the body starts at. -/
theorem offsets_zero : (![0, 0] : Fin 2 → Nat) = fun _ => 0 := by
  funext a; fin_cases a <;> rfl

/-- The six staging buffers a body call is given, at the contents `x` (the transposed node features), `w₁` and `w₂` (the two
    stacked gate weights), `l` (the linear layer's row), `g` (the rotated gradient weights) and `y` (the output). -/
def buffers (c : Dev nD) (a1 : Memref sig .tc .vmem S2x25088 .f32) (a2 : Memref sig .tc .vmem S64x2 .f32)
    (a3 : Memref sig .tc .vmem S256x32 .f32) (a4 : Memref sig .tc .vmem S1x128 .f32) (a5 : Memref sig .tc .vmem S2x1 .f32)
    (a6 : Memref sig .tc .vmem S2x25088 .f32) (x : Vec F S2x25088 .f32) (w₁ : Vec F S64x2 .f32) (w₂ : Vec F S256x32 .f32)
    (l : Vec F S1x128 .f32) (g : Vec F S2x1 .f32) (y : Vec F S2x25088 .f32) : sProp 𝕄 :=
  iprop(owns (c : Thread nD τ) a1 fullShare x ∗ owns (c : Thread nD τ) a2 fullShare w₁ ∗ owns (c : Thread nD τ) a3 fullShare w₂
    ∗ owns (c : Thread nD τ) a4 fullShare l ∗ owns (c : Thread nD τ) a5 fullShare g ∗ owns (c : Thread nD τ) a6 fullShare y)

set_option maxHeartbeats 1000000 in
/-- One body call on whole staging buffers, whatever the output buffer holds: it ends with the inputs as they were and the
    output at the payload of the inputs. -/
theorem body_runs (c : Dev nD) (E : Set ℕ) (i : grid0.Coords)
    (a1 : Memref sig .tc .vmem S2x25088 .f32) (h1 : a1.IsWhole) (a2 : Memref sig .tc .vmem S64x2 .f32) (h2 : a2.IsWhole)
    (a3 : Memref sig .tc .vmem S256x32 .f32) (h3 : a3.IsWhole) (a4 : Memref sig .tc .vmem S1x128 .f32) (h4 : a4.IsWhole)
    (a5 : Memref sig .tc .vmem S2x1 .f32) (h5 : a5.IsWhole) (a6 : Memref sig .tc .vmem S2x25088 .f32) (h6 : a6.IsWhole)
    (x : Vec F S2x25088 .f32) (w₁ : Vec F S64x2 .f32) (w₂ : Vec F S256x32 .f32) (l : Vec F S1x128 .f32) (g : Vec F S2x1 .f32)
    (y : Vec F S2x25088 .f32) (K : PUnit → sProp 𝕄) :
    iprop(buffers c a1 a2 a3 a4 a5 a6 x w₁ w₂ l g y
        ∗ (buffers c a1 a2 a3 a4 a5 a6 x w₁ w₂ l g (k0_pay1 x w₁ w₂ l g) -∗ K ⟨⟩))
      ⊢ wp frame (wpE (defs₀ (F := F)) Variants.none c none) E (cc0__body i a1 h1 a2 h2 a3 h3 a4 h4 a5 h5 a6 h6) K := by
  unfold buffers owns
  rw [cc0__body_eq_skeleton]; unfold cc0__body_skel
  iintro ⟨⟨⟨%b1, %e1, B1⟩, ⟨%b2, %e2, B2⟩, ⟨%b3, %e3, B3⟩, ⟨%b4, %e4, B4⟩, ⟨%b5, %e5, B5⟩, ⟨%b6, -, B6⟩⟩, Hk⟩
  subst e1 e2 e3 e4 e5
  sl_exec
  sl_step
  iapply Hk
  isplitl [B1]
  · iexists b1; isplitr; · ipureintro; rfl
    iexact B1
  isplitl [B2]
  · iexists b2; isplitr; · ipureintro; rfl
    iexact B2
  isplitl [B3]
  · iexists b3; isplitr; · ipureintro; rfl
    iexact B3
  isplitl [B4]
  · iexists b4; isplitr; · ipureintro; rfl
    iexact B4
  isplitl [B5]
  · iexists b5; isplitr; · ipureintro; rfl
    iexact B5
  iexists _; isplitr
  swap; · iexact B6
  ipureintro
  -- the one store covers the output buffer, and each load reads a whole input buffer
  refine (View.read_writes_eq_canon _ _ _ fun y => ⟨_, List.mem_singleton_self _, View.mem_set_unit_zero offsets_zero inb_S2x25088_S2x25088_0_0 y⟩).trans ?_
  refine (View.canon_unit_zero offsets_zero _ _).trans ?_
  have l1 := View.ld_unit_zero offsets_zero inb_S2x25088_S2x25088_0_0 (a1.view.read (Elt F) b1)
  have l2 := View.ld_unit_zero offsets_zero inb_S64x2_S64x2_0_0 (a2.view.read (Elt F) b2)
  have l3 := View.ld_unit_zero offsets_zero inb_S256x32_S256x32_0_0 (a3.view.read (Elt F) b3)
  have l4 := View.ld_unit_zero offsets_zero inb_S1x128_S1x128_0_0 (a4.view.read (Elt F) b4)
  have l5 := View.ld_unit_zero offsets_zero inb_S2x1_S2x1_0_0 (a5.view.read (Elt F) b5)
  exact congr (congr (congr (congr (congrArg k0_pay1 l1) l2) l3) l4) l5

end Cert.KernelIdeal.Node
-- ==== Proof.NodeMath.lean ====
/- The mathematics of one node: what the fused kernel computes from the node's two features and what the reference computes
   from them are the same extended real.

   The reference applies two gated recurrent cells whose state is zero, so a cell is `(1 - σ a) * tanh b`. The kernel writes
   `1 - σ a` as `1/2 - 1/2 tanh (a/2)`, moves the factor `1/2` inside the tanh into the weights, and in the first cell leaves
   the factor `1/2` in front out, to put it into the second cell's weights instead. All of it holds at every extended real,
   the infinities among them. -/
module

public import Idealize.ShloMosaic.Lib.Pointwise

@[expose] public section

noncomputable section

namespace Cert.NodeMath

open Idealize.ShloMosaic

/-- One half and one quarter, as extended reals. -/
def half : EReal := ((1 / 2 : ℝ) : EReal)
def quarter : EReal := ((1 / 4 : ℝ) : EReal)

/-- The single-precision patterns of 0.5 and 0.25 denote them. -/
theorem half_bits : Ideal.ofBits .f32 0x3F000000#32 = half := by
  unfold half
  simp [Ideal.ofBits, Ideal.ieee]
  rw [← EReal.coe_mul]; norm_num
theorem quarter_bits : Ideal.ofBits .f32 0x3E800000#32 = quarter := by
  unfold quarter
  simp [Ideal.ofBits, Ideal.ieee]
  rw [← EReal.coe_mul]; norm_num

theorem half_nonneg : 0 ≤ half := EReal.coe_nonneg.mpr (by norm_num)
theorem half_ne_top : half ≠ ⊤ := EReal.coe_ne_top _
theorem quarter_nonneg : 0 ≤ quarter := EReal.coe_nonneg.mpr (by norm_num)
theorem quarter_ne_top : quarter ≠ ⊤ := EReal.coe_ne_top _

/-- A quarter is half of a half. -/
theorem half_mul_half : half * half = quarter := by
  unfold half quarter; rw [← EReal.coe_mul]; norm_num

/-- A factor that is neither negative nor `+∞` goes in front of a finite sum, whatever the terms. -/
theorem mul_sum_of_nonneg {ι : Type} (s : Finset ι) {c : EReal} (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The sigmoid the reference spells out: `1 / (1 + e^(-a))`. -/
def logistic (a : EReal) : EReal := Ideal.div 1 (1 + Ideal.exp (-a))

/-- The hyperbolic tangent of an extended real is a real number. -/
theorem tanh_real (a : EReal) : ∃ t : ℝ, Ideal.tanh a = (t : EReal) := by
  induction a with
  | bot => exact ⟨-1, rfl⟩
  | top => exact ⟨1, rfl⟩
  | coe r => exact ⟨Real.tanh r, rfl⟩

/-- Over the reals: `1 - 1 / (1 + e^(-r)) = 1/2 - 1/2 tanh (r/2)`. -/
theorem real_one_sub_logistic (r : ℝ) : 1 - (1 + Real.exp (-r))⁻¹ = 1 / 2 - 1 / 2 * Real.tanh (1 / 2 * r) := by
  have hp : 0 < Real.exp (1 / 2 * r) := Real.exp_pos _
  have e1 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, Real.exp_neg (1 / 2 * r), e1]
  generalize Real.exp (1 / 2 * r) = u at hp
  have h2 : 0 < u * u + 1 := by positivity
  field_simp
  ring

/-- The kernel's form of one minus the sigmoid, at every extended real. -/
theorem one_sub_logistic (a : EReal) : 1 - logistic a = half - half * Ideal.tanh (half * a) := by
  have hpos : (0 : ℝ) < 1 / 2 := by norm_num
  unfold logistic half
  induction a with
  | bot =>
    rw [EReal.coe_mul_bot_of_pos hpos]
    show 1 - Ideal.div 1 (1 + Ideal.exp (-⊥)) = ((1 / 2 : ℝ) : EReal) - ((1 / 2 : ℝ) : EReal) * ((-1 : ℝ) : EReal)
    rw [EReal.neg_bot]
    show 1 - Ideal.div 1 (1 + ⊤) = _
    rw [EReal.add_top_of_ne_bot (by decide), Ideal.div, if_neg EReal.top_ne_zero, EReal.inv_top, mul_zero, sub_zero,
      ← EReal.coe_mul, ← EReal.coe_sub]
    norm_num
  | top =>
    rw [EReal.coe_mul_top_of_pos hpos]
    show 1 - Ideal.div 1 (1 + Ideal.exp (-⊤)) = ((1 / 2 : ℝ) : EReal) - ((1 / 2 : ℝ) : EReal) * ((1 : ℝ) : EReal)
    rw [EReal.neg_top]
    show 1 - Ideal.div 1 (1 + 0) = _
    rw [add_zero, Ideal.div, if_neg one_ne_zero, ← EReal.coe_mul, ← EReal.coe_sub, ← EReal.coe_one, ← EReal.coe_inv,
      ← EReal.coe_mul, ← EReal.coe_sub]
    norm_num
  | coe r =>
    rw [← EReal.coe_mul, ← EReal.coe_neg]
    show 1 - Ideal.div 1 (1 + ((Real.exp (-r) : ℝ) : EReal)) = ((1 / 2 : ℝ) : EReal) - ((1 / 2 : ℝ) : EReal) * ((Real.tanh (1 / 2 * r) : ℝ) : EReal)
    have hne : (1 : ℝ) + Real.exp (-r) ≠ 0 := by positivity
    rw [← EReal.coe_one, ← EReal.coe_add, Ideal.div, if_neg (by exact_mod_cast hne), ← EReal.coe_inv, ← EReal.coe_mul,
      ← EReal.coe_mul, ← EReal.coe_sub, ← EReal.coe_sub, one_mul, real_one_sub_logistic]

/-- Its first-cell form: the half taken out in front. -/
theorem half_mul_one_sub_tanh (a : EReal) : half * (1 - Ideal.tanh a) = half - half * Ideal.tanh a := by
  obtain ⟨t, ht⟩ := tanh_real a
  rw [ht]; unfold half
  rw [← EReal.coe_one, ← EReal.coe_sub, ← EReal.coe_mul, ← EReal.coe_mul, ← EReal.coe_sub]
  congr 1; ring

/-- Cutting off below zero commutes with the factor one half. -/
theorem max_half_mul (y : EReal) : max (half * y) 0 = half * max y 0 := by
  rcases le_total y 0 with h | h
  · rw [max_eq_right h, mul_zero, max_eq_right (by simpa using mul_le_mul_of_nonneg_left h half_nonneg)]
  · rw [max_eq_left h, max_eq_left (mul_nonneg half_nonneg h)]

/-! ## The two computations -/

/-- The first cell's output `q` after the rectifier, as the reference computes it from the features `x`. -/
def refHidden (Wz Wh : Fin 2 → Fin 32 → EReal) (x : Fin 2 → EReal) (q : Fin 32) : EReal :=
  max ((1 - logistic (∑ p, x p * Wz p q)) * Ideal.tanh (∑ p, x p * Wh p q)) 0

/-- The second cell's output `k` after the hyperbolic tangent, from the first cell's outputs `h`. -/
def refDeep (Vz Vh : Fin 32 → Fin 128 → EReal) (h : Fin 32 → EReal) (k : Fin 128) : EReal :=
  Ideal.tanh ((1 - logistic (∑ q, h q * Vz q k)) * Ideal.tanh (∑ q, h q * Vh q k))

/-- The linear layer's output for a node. -/
def refNode (Wz Wh : Fin 2 → Fin 32 → EReal) (Vz Vh : Fin 32 → Fin 128 → EReal) (l : Fin 128 → EReal) (x : Fin 2 → EReal) : EReal :=
  ∑ k, refDeep Vz Vh (refHidden Wz Wh x) k * l k

/-- What the kernel holds in row `q` after its first stage: the weights are `A` for the update gate and `B` for the candidate. -/
def kerHidden (A B : Fin 32 → Fin 2 → EReal) (x : Fin 2 → EReal) (q : Fin 32) : EReal :=
  max ((1 - Ideal.tanh (∑ p, A q p * x p)) * Ideal.tanh (∑ p, B q p * x p)) 0

/-- What it holds in row `k` after its second stage. -/
def kerDeep (C D : Fin 128 → Fin 32 → EReal) (h : Fin 32 → EReal) (k : Fin 128) : EReal :=
  Ideal.tanh ((half - half * Ideal.tanh (∑ q, C k q * h q)) * Ideal.tanh (∑ q, D k q * h q))

/-- And the linear layer's output. -/
def kerNode (A B : Fin 32 → Fin 2 → EReal) (C D : Fin 128 → Fin 32 → EReal) (l : Fin 128 → EReal) (x : Fin 2 → EReal) : EReal :=
  ∑ k, l k * kerDeep C D (kerHidden A B x) k

/-- The reference's first-cell output is half the kernel's, when the kernel's gate weights are half the reference's. -/
theorem refHidden_eq (Wz Wh : Fin 2 → Fin 32 → EReal) (x : Fin 2 → EReal) (q : Fin 32) :
    refHidden Wz Wh x q = half * kerHidden (fun q p => half * Wz p q) (fun q p => Wh p q) x q := by
  unfold refHidden kerHidden
  have hz : ∑ p, half * Wz p q * x p = half * ∑ p, x p * Wz p q := by
    rw [mul_sum_of_nonneg _ half_nonneg half_ne_top]
    exact Finset.sum_congr rfl fun p _ => by rw [mul_assoc, mul_comm (Wz p q)]
  have hh : ∑ p, Wh p q * x p = ∑ p, x p * Wh p q := Finset.sum_congr rfl fun p _ => mul_comm _ _
  rw [one_sub_logistic, ← half_mul_one_sub_tanh, hz, hh, mul_assoc, max_half_mul]

/-- The second cells agree, when the kernel's weights take up the half its first cell left out. -/
theorem refDeep_eq (Vz Vh : Fin 32 → Fin 128 → EReal) (h : Fin 32 → EReal) (k : Fin 128) :
    refDeep Vz Vh (fun q => half * h q) k = kerDeep (fun k q => quarter * Vz q k) (fun k q => half * Vh q k) h k := by
  unfold refDeep kerDeep
  have hz : ∑ q, quarter * Vz q k * h q = half * ∑ q, half * h q * Vz q k := by
    rw [mul_sum_of_nonneg _ half_nonneg half_ne_top]
    exact Finset.sum_congr rfl fun q _ => by rw [← half_mul_half, mul_assoc, mul_assoc, mul_assoc, mul_comm (Vz q k)]
  have hh : ∑ q, half * Vh q k * h q = ∑ q, half * h q * Vh q k :=
    Finset.sum_congr rfl fun q _ => by rw [mul_assoc, mul_assoc, mul_comm (Vh q k)]
  rw [one_sub_logistic, hz, hh]

/-- The whole node: the kernel's weights being the scaled, transposed ones, its output is the reference's. -/
theorem node_eq (Wz Wh : Fin 2 → Fin 32 → EReal) (Vz Vh : Fin 32 → Fin 128 → EReal) (l : Fin 128 → EReal) (x : Fin 2 → EReal) :
    kerNode (fun q p => half * Wz p q) (fun q p => Wh p q) (fun k q => quarter * Vz q k) (fun k q => half * Vh q k) l x
      = refNode Wz Wh Vz Vh l x := by
  unfold kerNode refNode
  refine Finset.sum_congr rfl fun k _ => ?_
  rw [← refDeep_eq, mul_comm, show refHidden Wz Wh x = _ from funext (refHidden_eq Wz Wh x)]

end Cert.NodeMath
-- ==== Proof.BlockValue.lean ====
/- What one block of the kernel computes, at an index: column `j` of the block it stores depends on column `j` of the features
   alone. -/
module

public import proofs.«01_k».proof.Proof.Gen.KernelIdeal.Skeleton
public import proofs.«01_k».proof.Proof.NodeMath

@[expose] public section

set_option maxRecDepth 16384

noncomputable section

namespace Cert.KernelIdeal.Node

open Idealize.ShloMosaic Idealize.SL.Sem
open Cert.KernelIdeal Cert.KernelIdeal.Gen Cert.NodeMath

/-- Row `q` of the upper half and of the lower half of the stacked weights. -/
def upper32 (q : Fin 32) : Fin 64 := ⟨q.val, by omega⟩
def lower32 (q : Fin 32) : Fin 64 := ⟨32 + q.val, by omega⟩
def upper128 (k : Fin 128) : Fin 256 := ⟨k.val, by omega⟩
def lower128 (k : Fin 128) : Fin 256 := ⟨128 + k.val, by omega⟩

/-- Row `r`, column `j` of the block the kernel stores: the node's value from column `j` of the features, times entry `r` of
    the last factor. -/
theorem pay_at (x : Vec Ideal S2x25088 .f32) (w₁ : Vec Ideal S64x2 .f32) (w₂ : Vec Ideal S256x32 .f32) (l : Vec Ideal S1x128 .f32)
    (g : Vec Ideal S2x1 .f32) (r : Fin 2) (j : Fin 25088) :
    k0_pay1 x w₁ w₂ l g (ix2 r j)
      = kerNode (fun q p => w₁ (ix2 (upper32 q) p)) (fun q p => w₁ (ix2 (lower32 q) p))
          (fun k q => w₂ (ix2 (upper128 k) q)) (fun k q => w₂ (ix2 (lower128 k) q)) (fun k => l (ix2 0 k)) (fun p => x (ix2 p j))
        * g (ix2 r 0) := by
  unfold k0_pay1
  pointwise [kerNode, kerDeep, kerHidden]
  rw [show Ideal.ofBits FTy.f32 1056964608#32 = half from half_bits]
  rfl

/-- The block the kernel stores has the same column `j` for any two blocks of features with the same column `j`. -/
theorem pay_column {x x' : Vec Ideal S2x25088 .f32} (w₁ : Vec Ideal S64x2 .f32) (w₂ : Vec Ideal S256x32 .f32)
    (l : Vec Ideal S1x128 .f32) (g : Vec Ideal S2x1 .f32) (r : Fin 2) (j : Fin 25088)
    (h : ∀ p : Fin 2, x (ix2 p j) = x' (ix2 p j)) :
    k0_pay1 x w₁ w₂ l g (ix2 r j) = k0_pay1 x' w₁ w₂ l g (ix2 r j) := by
  rw [pay_at, pay_at, show (fun p => x (ix2 p j)) = fun p => x' (ix2 p j) from funext h]

end Cert.KernelIdeal.Node
-- ==== Proof.IdealRun.lean ====
/- The run of the idealized program over the extended reals, with the output array followed.

   The last block of the transposed input overhangs its array, so some columns of its buffer hold values no program text
   determines. A column of the block the body stores depends on that column of the features only, so the output columns that
   the write-back keeps are determined all the same. -/
module

public import proofs.«01_k».proof.Proof.IdealBody
public import proofs.«01_k».proof.Proof.BlockValue

@[expose] public section

set_option maxRecDepth 16384

noncomputable section

namespace Cert.KernelIdeal.Node

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)

local notation "𝕄" => MT nD τ sig Unit (Elt Ideal) ℕ (UR sig nD τ) ℕ

variable (m : (ℓ : Loc nD τ sig) → Buf (Elt Ideal) ℓ) (ρ : Dev nD → PrngReg)

/-- The block of the transposed input at point `t`, as wide as the staging buffer: the array's columns where there are any,
    zero beyond. -/
def wideX (c : Dev nD) (t : Fin cfg0.N) : Vec Ideal S2x25088 .f32 :=
  win0_0.fill (grid0.coords t) (fun _ => (0 : EReal)) (iblk m c 0 t)

/-- What the pipeline is told of each window: its array as the region finds it, and what the body leaves in its buffer. -/
def dats (_ : Fin 1) (c : Dev nD) : Dat τ (Elt Ideal) Unit ℕ (UR sig nD τ) ℕ cfg0 c where
  A w := V m c (Pipeline.arrRef spec0 w)
  after w t := match w with
    | ⟨0, _⟩ => wideX m c t
    | ⟨1, _⟩ => iblk m c 1 t
    | ⟨2, _⟩ => iblk m c 2 t
    | ⟨3, _⟩ => iblk m c 3 t
    | ⟨4, _⟩ => iblk m c 4 t
    | ⟨5, _⟩ => k0_pay1 (wideX m c t) (iblk m c 1 t) (iblk m c 2 t) (iblk m c 3 t) (iblk m c 4 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_x (c : Dev nD) (t : Fin cfg0.N) : (dats m 0 c).after 0 t = wideX m c t := by dsimp only [dats]
theorem after_w₁ (c : Dev nD) (t : Fin cfg0.N) : (dats m 0 c).after 1 t = iblk m c 1 t := by dsimp only [dats]
theorem after_w₂ (c : Dev nD) (t : Fin cfg0.N) : (dats m 0 c).after 2 t = iblk m c 2 t := by dsimp only [dats]
theorem after_l (c : Dev nD) (t : Fin cfg0.N) : (dats m 0 c).after 3 t = iblk m c 3 t := by dsimp only [dats]
theorem after_g (c : Dev nD) (t : Fin cfg0.N) : (dats m 0 c).after 4 t = iblk m c 4 t := by dsimp only [dats]

theorem after_out (c : Dev nD) (t : Fin cfg0.N) : (dats m 0 c).after 5 t
    = k0_pay1 (wideX m c t) (iblk m c 1 t) (iblk m c 2 t) (iblk m c 3 t) (iblk m c 4 t) := by dsimp only [dats]

/-- The body finds the transposed input's buffer just fetched: the block on the columns inside the array, any `d` beyond. -/
theorem before_x (c : Dev nD) (t : Fin cfg0.N) (d) :
    (dats m 0 c).before 0 t d = win0_0.fill (grid0.coords t) d (iblk m c 0 t) := by
  unfold Dat.before; rw [if_pos (fetch0_0 t)]; rfl
/-- And the four weight buffers at their arrays. -/
theorem before_w₁ (c : Dev nD) (t : Fin cfg0.N) (d) : (dats m 0 c).before 1 t d = iblk m c 1 t :=
  before0_1_of m (dats m 0 c) (dats_A m c 1) (after_w₁ m c) t d
theorem before_w₂ (c : Dev nD) (t : Fin cfg0.N) (d) : (dats m 0 c).before 2 t d = iblk m c 2 t :=
  before0_2_of m (dats m 0 c) (dats_A m c 2) (after_w₂ m c) t d
theorem before_l (c : Dev nD) (t : Fin cfg0.N) (d) : (dats m 0 c).before 3 t d = iblk m c 3 t :=
  before0_3_of m (dats m 0 c) (dats_A m c 3) (after_l m c) t d
theorem before_g (c : Dev nD) (t : Fin cfg0.N) (d) : (dats m 0 c).before 4 t d = iblk m c 4 t :=
  before0_4_of m (dats m 0 c) (dats_A m c 4) (after_g m c) t d

/-- The body call of point `t`, as the pipeline's table of bodies gives it. -/
theorem body_row (t : Fin cfg0.N) : defs₀ (F := Ideal) .tc cfg0.body (cfg0.bodyArgs t (cfg0.slots t)) = bodyAt0 t := by
  unfold defs₀; rw [Defs.onTc_tc]

/-- A column of the output's block that the write-back keeps is one of the input's block that the fetch filled: there the two
    do not differ in what they hold beyond the array. -/
theorem fill_column (t : Fin cfg0.N) (d d' : Vec Ideal S2x25088 .f32) (X : (win0_0.xblock (grid0.coords t)).Idx → Elt Ideal .f32)
    (j : Fin 25088) (hj : j.val < win0_5.xsize (grid0.coords t) 1) (p : Fin 2) :
    win0_0.fill (grid0.coords t) d X (ix2 p j) = win0_0.fill (grid0.coords t) d' X (ix2 p j) := by
  have hm : win0_0.moved (grid0.coords t) (ix2 p j) = true :=
    (win0_0.moved_iff (grid0.coords t) _).mpr fun a => match a with
      | ⟨0, _⟩ => p.isLt
      | ⟨1, _⟩ => hj
  unfold Window.fill
  rw [dif_pos hm, dif_pos hm]

/-- The part of the stored block that the write-back keeps does not depend on what the input's buffer holds beyond the array. -/
theorem cut_pay (c : Dev nD) (t : Fin cfg0.N) (d : Vec Ideal S2x25088 .f32) :
    win0_5.cut (grid0.coords t) (k0_pay1 (win0_0.fill (grid0.coords t) d (iblk m c 0 t)) (iblk m c 1 t) (iblk m c 2 t) (iblk m c 3 t) (iblk m c 4 t))
      = win0_5.cut (grid0.coords t) (k0_pay1 (wideX m c t) (iblk m c 1 t) (iblk m c 2 t) (iblk m c 3 t) (iblk m c 4 t)) := by
  funext j
  have hj : (j 1).val < win0_5.xsize (grid0.coords t) 1 := (j 1).isLt
  have he : win0_5.xinj (grid0.coords t) j
      = ix2 (⟨(j 0).val, Nat.lt_of_lt_of_le (j 0).isLt (win0_5.xsize_le (grid0.coords t) 0)⟩ : Fin 2) (⟨(j 1).val, Nat.lt_of_lt_of_le hj (win0_5.xsize_le (grid0.coords t) 1)⟩ : Fin 25088) :=
    eq_ix2 _
  show k0_pay1 _ _ _ _ _ (win0_5.xinj (grid0.coords t) j) = k0_pay1 _ _ _ _ _ (win0_5.xinj (grid0.coords t) j)
  rw [he]
  exact pay_column _ _ _ _ _ _ fun p => fill_column t d _ _ _ hj p

/-- The body keeps its side of the pipeline's contract at every point: it returns each input buffer as it found it, which on
    the columns inside the array is what `dats` says, and the output's buffer at what it computed. -/
theorem body_obligation (c : Dev nD) :
    BodyObligationLoose (dats m 0 c) (defs₀ (F := Ideal)) Variants.none () Set.univ := fun t => by
  rw [bigSep_W0, bigSep_W0, body_row]
  have hx : win0_0.cut (grid0.coords t) (wideX m c t) = iblk m c 0 t := win0_0.cut_fill _ _ _
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_x m c t d0, before_w₁ m c t d1, before_w₂ m c t d2, before_l m c t d3, before_g m c t d4]
  unfold bodyAt0
  iapply (body_runs c Set.univ (grid0.coords t) _ _ _ _ _ _ _ _ _ _ _ _ (win0_0.fill (grid0.coords t) d0 (iblk m c 0 t))
    (iblk m c 1 t) (iblk m c 2 t) (iblk m c 3 t) (iblk m c 4 t) _ _)
  unfold buffers
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0 (win0_0.cut (grid0.coords t) (wideX m c t)))
    rw [hx]
  isplitl [H1]; · iexact H1
  isplitl [H2]; · iexact H2
  isplitl [H3]; · iexact H3
  isplitl [H4]; · iexact H4
  iexists (k0_pay1 (win0_0.fill (grid0.coords t) d0 (iblk m c 0 t)) (iblk m c 1 t) (iblk m c 2 t) (iblk m c 3 t) (iblk m c 4 t))
  change _ ⊢ owns (c : Thread nD τ) (stage0_5 (cfg0.slots t 5)) fullShare (win0_5.fill (α := Elt Ideal .f32) (grid0.coords t) _ (win0_5.cut (α := Elt Ideal .f32) (grid0.coords t) (k0_pay1 (wideX m c t) (iblk m c 1 t) (iblk m c 2 t) (iblk m c 3 t) (iblk m c 4 t))))
  rw [win0_5.fill_congr_cut (grid0.coords t) (cut_pay m c t d0)]

set_option backward.isDefEq.respectTransparency.types false in
set_option maxHeartbeats 800000 in
/-- Every run of @main ends with the pipeline's arrays at what the blocks written back make of them, the result at the host
    line after the region applied to that, every other buffer as the region found it, and all counters at zero. -/
theorem run_exact : θ_run defs (onTc (τ := τ) (main (F := Ideal))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := dats_A m) (hΦ := fun _ _ => rfl)

end Cert.KernelIdeal.Node
-- ==== Proof.Arguments.lean ====
/- What is left alone by a run: no argument of either kernel program is written by the host lines or by the region, so each ends as
   launched. -/
module

public import proofs.«01_k».proof.Proof.KernelFrame
public import proofs.«01_k».proof.Proof.IdealRun
public import Idealize.ShloMosaic.Lib.Claim

@[expose] public section

set_option maxRecDepth 16384

noncomputable section

namespace Cert.Kernel.Node

open Cert.Kernel.Gen
open Idealize.ShloMosaic Idealize.ShloMosaic.TcCoe Idealize.SL.Sem

variable {F : FTy → Type} [FloatOps F] (m : (ℓ : Loc nD τ sig) → Buf (Elt F) ℓ)

/-- The thirty arguments. -/
def arguments : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-- No host line before the region writes an argument. -/
theorem argument_found (c : Dev nD) (b : Ref sig .tc) (hb : b ∈ arguments) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nullary_writes, StableHlo.unary_writes, StableHlo.binary_writes,
      StableHlo.reshape_writes, Finset.mem_singleton]
    and_intros <;> exact StableHlo.devRef_ne_of_ne fun e => absurd (e ▸ hb) (by decide)))

/-- An argument is no buffer of a region, no array of the pipeline, and not the result. -/
theorem argument_apart : ∀ b ∈ arguments, b.isScoped = false ∧ (∀ w, Pipeline.arrRef spec0 w ≠ b) ∧ b ∉ ({main_v24} : Finset (Ref sig .tc)) := by
  decide

/-- Every argument ends as launched. -/
theorem argument_kept {r : PUnit × MemSt nD τ sig (Elt F)}
    (h : Pipeline.RDat.FramePostR cfg0 (fun c => (dats m 0 c).toRForget untracked) {main_v24} (V m) r) (c : Dev nD) (b : Ref sig .tc)
    (hb : b ∈ arguments) : r.2.mem ((c : Thread nD τ).loc b) = m ((c : Thread nD τ).loc b) :=
  kept m h c b (argument_apart b hb).1 (argument_apart b hb).2.1 (argument_apart b hb).2.2 (argument_found m c b hb)

end Cert.Kernel.Node

namespace Cert.KernelIdeal.Node

open Cert.KernelIdeal.Gen
open Idealize.ShloMosaic Idealize.ShloMosaic.TcCoe Idealize.SL.Sem

variable (m : (ℓ : Loc nD τ sig) → Buf (Elt Ideal) ℓ)

/-- The thirty arguments. -/
def arguments : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-- No host line before the region writes an argument. -/
theorem argument_found (c : Dev nD) (b : Ref sig .tc) (hb : b ∈ arguments) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nullary_writes, StableHlo.unary_writes, StableHlo.binary_writes,
      StableHlo.reshape_writes, Finset.mem_singleton]
    and_intros <;> exact StableHlo.devRef_ne_of_ne fun e => absurd (e ▸ hb) (by decide)))

/-- An argument is no buffer of a region and no array of the pipeline. -/
theorem argument_apart : ∀ b ∈ arguments, b.isScoped = false ∧ (∀ w, Pipeline.arrRef spec0 w ≠ b) := by
  decide

/-- The host line after the region writes no argument. -/
theorem argument_left (c : Dev nD) (b : Ref sig .tc) (hb : b ∈ arguments) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.unary_writes, Finset.mem_singleton]
    exact StableHlo.devRef_ne_of_ne fun e => absurd (e ▸ hb) (by decide))),
    Pipeline.withArrays_of_ne _ _ _ _ _ (argument_apart b hb).2]
  exact argument_found m c b hb

/-- Every argument ends as launched. -/
theorem argument_kept {r : PUnit × MemSt nD τ sig (Elt Ideal)}
    (h : Pipeline.FramePost cfgs (dats m) 0 (Pipeline.afterTail₀ cfgs (dats m) 0 (V0 m) [hostOps1]) r) (c : Dev nD) (b : Ref sig .tc)
    (hb : b ∈ arguments) : r.2.mem ((c : Thread nD τ).loc b) = m ((c : Thread nD τ).loc b) :=
  ((h c).2 b (Pipeline.mem_restRefs_of b (argument_apart b hb).1 (argument_apart b hb).2)).trans (argument_left m c b hb)

/-- The result ends at the host line after the region, applied to the arrays the region left. -/
theorem result_kept {r : PUnit × MemSt nD τ sig (Elt Ideal)}
    (h : Pipeline.FramePost cfgs (dats m) 0 (Pipeline.afterTail₀ cfgs (dats m) 0 (V0 m) [hostOps1]) r) (c : Dev nD) :
    r.2.mem ((c : Thread nD τ).loc main_v24) = Pipeline.afterTail₀ cfgs (dats m) 0 (V0 m) [hostOps1] c main_v24 :=
  (h c).2 main_v24 (Pipeline.mem_restRefs_of main_v24 (by decide) (by decide))

end Cert.KernelIdeal.Node
-- ==== Proof.HostValue.lean ====
/- The arrays the host lines prepare for the kernel, at an index: the transposed features, the two stacks of scaled, transposed
   weights, the linear layer's row and the two entries of the last factor. -/
module

public import proofs.«01_k».proof.Proof.IdealRun
public import Idealize.ShloMosaic.Lib.Claim

@[expose] public section

set_option maxRecDepth 16384

noncomputable section

namespace Cert.KernelIdeal.Node

open Cert.KernelIdeal.Gen Cert.NodeMath
open Idealize.ShloMosaic Idealize.ShloMosaic.TcCoe Idealize.ShloMosaic.Tactic
open Idealize.SL.Sem

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

/-- The kernel's first input is the features transposed. -/
theorem features_at (c : Dev nD) (p : Fin 2) (n : Fin 100000) :
    (V m c main_v22 : Vec Ideal S2x100000 .f32) (ix2 p n) = (arg m c main_arg0 : Vec Ideal S100000x2 .f32) (ix2 n p) := by
  have h : (V m c main_v22 : Vec Ideal S2x100000 .f32) = transpose S2x100000 [1, 0] (arg m c main_arg0 : Vec Ideal S100000x2 .f32) transposes_S100000x2_S2x100000_1_0 := by
    unfold V V0
    simp only [hostOps0, List.flatten_cons, List.flatten_nil, List.append_nil]
    after_results_simp <;> rfl
  rw [h]
  pointwise

/-- The first stack of weights as an array: half the update gate's, transposed, above the candidate's, transposed. -/
theorem stack₁ (c : Dev nD) : (V m c main_v4 : Vec Ideal S64x2 .f32)
    = concatenate S64x2 0
        [⟨S32x2, mulf (broadcastInDim S32x2 ![] bcast_S_S32x2 (constant (F := Ideal) S_ .f32 0x3F000000#32))
            (transpose S32x2 [1, 0] (arg m c main_arg2 : Vec Ideal S2x32 .f32) transposes_S2x32_S32x2_1_0)⟩,
          ⟨S32x2, transpose S32x2 [1, 0] (arg m c main_arg10 : Vec Ideal S2x32 .f32) transposes_S2x32_S32x2_1_0⟩]
        concatenates_S32x2_S32x2_S64x2_d0 := by
  unfold V V0
  simp only [hostOps0, List.flatten_cons, List.flatten_nil, List.append_nil]
  after_results <;> rfl

/-- The second stack: a quarter of the update gate's above half the candidate's. -/
theorem stack₂ (c : Dev nD) : (V m c main_v11 : Vec Ideal S256x32 .f32)
    = concatenate S256x32 0
        [⟨S128x32, mulf (broadcastInDim S128x32 ![] bcast_S_S128x32 (constant (F := Ideal) S_ .f32 0x3E800000#32))
            (transpose S128x32 [1, 0] (arg m c main_arg14 : Vec Ideal S32x128 .f32) transposes_S32x128_S128x32_1_0)⟩,
          ⟨S128x32, mulf (broadcastInDim S128x32 ![] bcast_S_S128x32 (constant (F := Ideal) S_ .f32 0x3F000000#32))
            (transpose S128x32 [1, 0] (arg m c main_arg22 : Vec Ideal S32x128 .f32) transposes_S32x128_S128x32_1_0)⟩]
        concatenates_S128x32_S128x32_S256x32_d0 := by
  unfold V V0
  simp only [hostOps0, List.flatten_cons, List.flatten_nil, List.append_nil]
  after_results <;> rfl

/-- The last factor: the second gradient weight above minus the first. -/
theorem factor (c : Dev nD) : (V m c main_v21 : Vec Ideal S2x1 .f32)
    = shapeCast S2x1 (concatenate S2 0
        [⟨S1, broadcastInDim S1 ![] bcast_S_S1 (shapeCast S_ (extractStridedSlice S1x1 ![0, 1] (arg m c main_arg28 : Vec Ideal S1x2 .f32) slices_S1x2_S1x1_0_1) shapeCasts_S1x1_S_)⟩,
          ⟨S1, broadcastInDim S1 ![] bcast_S_S1 (Host.negf (F := Ideal) (φ := .f32) (shapeCast S_ (extractStridedSlice S1x1 ![0, 0] (arg m c main_arg28 : Vec Ideal S1x2 .f32) slices_S1x2_S1x1_0_0) shapeCasts_S1x1_S_))⟩]
        concatenates_S1_S1_S2_d0) shapeCasts_S2_S2x1 := by
  unfold V V0
  simp only [hostOps0, List.flatten_cons, List.flatten_nil, List.append_nil]
  after_results <;> rfl

/-- The linear layer's row is its column transposed. -/
theorem linear_at (c : Dev nD) (k : Fin 128) :
    (V m c main_v12 : Vec Ideal S1x128 .f32) (ix2 0 k) = (arg m c main_arg26 : Vec Ideal S128x1 .f32) (ix2 k 0) := by
  have h : (V m c main_v12 : Vec Ideal S1x128 .f32) = transpose S1x128 [1, 0] (arg m c main_arg26 : Vec Ideal S128x1 .f32) transposes_S128x1_S1x128_1_0 := by
    unfold V V0
    simp only [hostOps0, List.flatten_cons, List.flatten_nil, List.append_nil]
    after_results_simp <;> rfl
  rw [h]
  pointwise

/-- The first stack, at a row of its upper half. -/
theorem stack₁_upper (c : Dev nD) (q : Fin 32) (p : Fin 2) : (V m c main_v4 : Vec Ideal S64x2 .f32) (ix2 (upper32 q) p)
    = half * (arg m c main_arg2 : Vec Ideal S2x32 .f32) (ix2 p q) := by
  rw [stack₁]
  pointwise [upper32]
  rw [show Ideal.ofBits FTy.f32 1056964608#32 = half from half_bits]

/-- The first stack, at a row of its lower half. -/
theorem stack₁_lower (c : Dev nD) (q : Fin 32) (p : Fin 2) : (V m c main_v4 : Vec Ideal S64x2 .f32) (ix2 (lower32 q) p)
    = (arg m c main_arg10 : Vec Ideal S2x32 .f32) (ix2 p q) := by
  rw [stack₁]
  pointwise [lower32]

/-- The second stack, at a row of its upper half. -/
theorem stack₂_upper (c : Dev nD) (k : Fin 128) (q : Fin 32) : (V m c main_v11 : Vec Ideal S256x32 .f32) (ix2 (upper128 k) q)
    = quarter * (arg m c main_arg14 : Vec Ideal S32x128 .f32) (ix2 q k) := by
  rw [stack₂]
  pointwise [upper128]
  rw [show Ideal.ofBits FTy.f32 1048576000#32 = quarter from quarter_bits]

/-- The second stack, at a row of its lower half. -/
theorem stack₂_lower (c : Dev nD) (k : Fin 128) (q : Fin 32) : (V m c main_v11 : Vec Ideal S256x32 .f32) (ix2 (lower128 k) q)
    = half * (arg m c main_arg22 : Vec Ideal S32x128 .f32) (ix2 q k) := by
  rw [stack₂]
  pointwise [lower128]
  rw [show Ideal.ofBits FTy.f32 1056964608#32 = half from half_bits]

/-- The last factor's two entries. -/
theorem factor_first (c : Dev nD) : (V m c main_v21 : Vec Ideal S2x1 .f32) (ix2 0 0)
    = (arg m c main_arg28 : Vec Ideal S1x2 .f32) (ix2 0 1) := by
  rw [factor]
  pointwise
theorem factor_second (c : Dev nD) : (V m c main_v21 : Vec Ideal S2x1 .f32) (ix2 1 0)
    = Neg.neg (α := EReal) ((arg m c main_arg28 : Vec Ideal S1x2 .f32) (ix2 0 0)) := by
  rw [factor]
  pointwise

end Cert.KernelIdeal.Node
-- ==== Proof.KernelValue.lean ====
/- What the kernel's output array holds at the end: entry `(r, n)` is the node's value computed from column `n` of the
   transposed features, times entry `r` of the last factor. The four blocks written back tile the array, the last one cut at the
   array's end. -/
module

public import proofs.«01_k».proof.Proof.HostValue

@[expose] public section

set_option maxRecDepth 16384

noncomputable section

namespace Cert.KernelIdeal.Node

open Cert.KernelIdeal.Gen Cert.NodeMath
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The kernel's value of a node with features `x`, from the arrays the region finds. -/
def nodeOf (c : Dev nD) (x : Fin 2 → EReal) : EReal :=
  kerNode (fun q p => (V m c main_v4 : Vec Ideal S64x2 .f32) (ix2 (upper32 q) p))
    (fun q p => (V m c main_v4 : Vec Ideal S64x2 .f32) (ix2 (lower32 q) p))
    (fun k q => (V m c main_v11 : Vec Ideal S256x32 .f32) (ix2 (upper128 k) q))
    (fun k q => (V m c main_v11 : Vec Ideal S256x32 .f32) (ix2 (lower128 k) q))
    (fun k => (V m c main_v12 : Vec Ideal S1x128 .f32) (ix2 0 k)) x

/-- The output array, entry by entry. -/
def outArray (c : Dev nD) : Vec Ideal S2x100000 .f32 := fun i =>
  nodeOf m c (fun p => (V m c main_v22 : Vec Ideal S2x100000 .f32) (ix2 p (i 1))) * (V m c main_v21 : Vec Ideal S2x1 .f32) (ix2 (i 0) 0)

/-- Each weight window's block is its whole array, at every point. -/
theorem block_w₁ (c : Dev nD) (t : Fin cfg0.N) : (iblk m c 1 t : Vec Ideal S64x2 .f32) = V m c main_v4 := by
  funext j
  refine congrArg (V m c main_v4) (funext fun a => Fin.ext ?_)
  show win0_1.index t a * win0_1.size a + 1 * (j a).val = (j a).val
  have : win0_1.index t a = 0 := by revert a; rcases fin_N0 t with rfl | rfl | rfl | rfl <;> decide +kernel
  rw [this]; omega
theorem block_w₂ (c : Dev nD) (t : Fin cfg0.N) : (iblk m c 2 t : Vec Ideal S256x32 .f32) = V m c main_v11 := by
  funext j
  refine congrArg (V m c main_v11) (funext fun a => Fin.ext ?_)
  show win0_2.index t a * win0_2.size a + 1 * (j a).val = (j a).val
  have : win0_2.index t a = 0 := by revert a; rcases fin_N0 t with rfl | rfl | rfl | rfl <;> decide +kernel
  rw [this]; omega
theorem block_l (c : Dev nD) (t : Fin cfg0.N) : (iblk m c 3 t : Vec Ideal S1x128 .f32) = V m c main_v12 := by
  funext j
  refine congrArg (V m c main_v12) (funext fun a => Fin.ext ?_)
  show win0_3.index t a * win0_3.size a + 1 * (j a).val = (j a).val
  have : win0_3.index t a = 0 := by revert a; rcases fin_N0 t with rfl | rfl | rfl | rfl <;> decide +kernel
  rw [this]; omega
theorem block_g (c : Dev nD) (t : Fin cfg0.N) : (iblk m c 4 t : Vec Ideal S2x1 .f32) = V m c main_v21 := by
  funext j
  refine congrArg (V m c main_v21) (funext fun a => Fin.ext ?_)
  show win0_4.index t a * win0_4.size a + 1 * (j a).val = (j a).val
  have : win0_4.index t a = 0 := by revert a; rcases fin_N0 t with rfl | rfl | rfl | rfl <;> decide +kernel
  rw [this]; omega

/-- Blocks move along the columns only: point `t` reads and writes from column `25088 * t` on. -/
theorem rows_start (t : Fin cfg0.N) : win0_5.index t 0 = 0 := by
  rcases fin_N0 t with rfl | rfl | rfl | rfl <;> decide +kernel
theorem in_start (t : Fin cfg0.N) : win0_0.index t 0 = 0 := by
  rcases fin_N0 t with rfl | rfl | rfl | rfl <;> decide +kernel
theorem same_start (t : Fin cfg0.N) : win0_0.index t 1 = win0_5.index t 1 := by
  rcases fin_N0 t with rfl | rfl | rfl | rfl <;> decide +kernel

/-- Column `j` of the input's buffer at point `t`, when the array has it, is the array's column where the output's block puts
    its own column `j`. -/
theorem wideX_at (c : Dev nD) (t : Fin cfg0.N) (p : Fin 2) (j : (win0_5.xblock (grid0.coords t)).Idx) (h : (j 1).val < 25088) :
    wideX m c t (ix2 p ⟨(j 1).val, h⟩)
      = (V m c main_v22 : Vec Ideal S2x100000 .f32) (ix2 p (((win0_5.blk t).view.emb j) 1)) := by
  have hj : (j 1).val < win0_5.xsize (grid0.coords t) 1 := (j 1).isLt
  have hm : win0_0.moved (grid0.coords t) (ix2 p ⟨(j 1).val, h⟩) = true :=
    (win0_0.moved_iff (grid0.coords t) _).mpr fun a => match a with
      | ⟨0, _⟩ => p.isLt
      | ⟨1, _⟩ => hj
  unfold wideX Window.fill
  rw [dif_pos hm]
  refine congrArg (V m c main_v22) (funext fun a => Fin.ext ?_)
  match a with
  | ⟨0, _⟩ =>
    show win0_0.index t 0 * 2 + 1 * p.val = p.val
    rw [in_start]; omega
  | ⟨1, _⟩ =>
    show win0_0.index t 1 * 25088 + 1 * (j 1).val = win0_5.index t 1 * 25088 + 1 * (j 1).val
    rw [same_start]

/-- What point `t` writes back is the output array read through its block. -/
theorem flushed_eq (c : Dev nD) (t : Fin cfg0.N) :
    (dats m 0 c).flushed 5 t = ((cfg0.win 5).blk t).view.read (Elt Ideal) (outArray m c) := by
  funext j
  show k0_pay1 (wideX m c t) (iblk m c 1 t) (iblk m c 2 t) (iblk m c 3 t) (iblk m c 4 t) (win0_5.xinj (grid0.coords t) j)
    = outArray m c ((win0_5.blk t).view.emb j)
  have hj : (j 1).val < win0_5.xsize (grid0.coords t) 1 := (j 1).isLt
  have h1 : (j 1).val < 25088 := Nat.lt_of_lt_of_le hj (win0_5.xsize_le (grid0.coords t) 1)
  have h0 : (j 0).val < 2 := Nat.lt_of_lt_of_le (j 0).isLt (win0_5.xsize_le (grid0.coords t) 0)
  rw [show win0_5.xinj (grid0.coords t) j = ix2 (⟨(j 0).val, h0⟩ : Fin 2) (⟨(j 1).val, h1⟩ : Fin 25088) from eq_ix2 _,
    pay_at, block_w₁, block_w₂, block_l, block_g]
  unfold outArray nodeOf
  rw [show (fun p => wideX m c t (ix2 p ⟨(j 1).val, h1⟩)) = fun p => (V m c main_v22 : Vec Ideal S2x100000 .f32) (ix2 p (((win0_5.blk t).view.emb j) 1))
    from funext fun p => wideX_at m c t p j h1]
  refine congrArg (_ * ·) (congrArg (V m c main_v21) (congrArg (ix2 · 0) (Fin.ext ?_)))
  show (j 0).val = win0_5.index t 0 * 2 + 1 * (j 0).val
  rw [rows_start]; omega

/-- Which columns point `t` writes back. -/
theorem mem_written (t : Fin cfg0.N) (i : S2x100000.Idx) : i ∈ (win0_5.blk t).view.set ↔
    win0_5.index t 1 * 25088 ≤ (i 1).val ∧ (i 1).val < win0_5.index t 1 * 25088 + win0_5.xsize (grid0.coords t) 1 := by
  show i ∈ ((View.whole main_v23).slice (win0_5.rect t)).set ↔ _
  rw [View.set_slice_whole, Rect.mem_set_unit]
  constructor
  · intro h; exact h 1
  · intro h a
    match a with
    | ⟨0, _⟩ =>
      show win0_5.index t 0 * 2 ≤ (i 0).val ∧ (i 0).val < win0_5.index t 0 * 2 + 2
      have := (i 0).isLt
      rw [rows_start]
      exact ⟨by omega, by have h2 : (i 0).val < 2 := (i 0).isLt; omega⟩
    | ⟨1, _⟩ => exact h

/-- Every column is written back at some point. -/
theorem covered (i : S2x100000.Idx) : ∃ t : Fin cfg0.N, (cfg0.win 5).flush t = true ∧ i ∈ (win0_5.blk t).view.set := by
  have hi : (i 1).val < 100000 := (i 1).isLt
  have m0 := mem_written t0_0 i; have m1 := mem_written t0_1 i; have m2 := mem_written t0_2 i; have m3 := mem_written t0_3 i
  rw [show win0_5.index t0_0 1 = 0 from by decide +kernel, show win0_5.xsize (grid0.coords t0_0) 1 = 25088 from by decide +kernel] at m0
  rw [show win0_5.index t0_1 1 = 1 from by decide +kernel, show win0_5.xsize (grid0.coords t0_1) 1 = 25088 from by decide +kernel] at m1
  rw [show win0_5.index t0_2 1 = 2 from by decide +kernel, show win0_5.xsize (grid0.coords t0_2) 1 = 25088 from by decide +kernel] at m2
  rw [show win0_5.index t0_3 1 = 3 from by decide +kernel, show win0_5.xsize (grid0.coords t0_3) 1 = 24736 from by decide +kernel] at m3
  by_cases c0 : (i 1).val < 25088
  · exact ⟨t0_0, flush0_5 _, m0.mpr ⟨by omega, by omega⟩⟩
  by_cases c1 : (i 1).val < 50176
  · exact ⟨t0_1, flush0_5 _, m1.mpr ⟨by omega, by omega⟩⟩
  by_cases c2 : (i 1).val < 75264
  · exact ⟨t0_2, flush0_5 _, m2.mpr ⟨by omega, by omega⟩⟩
  exact ⟨t0_3, flush0_5 _, m3.mpr ⟨by omega, by omega⟩⟩

/-- So the output array ends holding `outArray`. -/
theorem out_final (c : Dev nD) : (dats m 0 c).arrAt 5 cfg0.N = outArray m c :=
  (dats m 0 c).arrAt_eq_of_cover 5 (outArray m c) (fun t _ => flushed_eq m c t) covered

/-- And the kernel's result, the transpose of that array, holds at `(n, r)` the array's entry `(r, n)`. -/
theorem result_at (c : Dev nD) (n : Fin 100000) (r : Fin 2) :
    (Pipeline.afterTail₀ cfgs (dats m) 0 (V0 m) [hostOps1] c main_v24 : Vec Ideal S100000x2 .f32) (ix2 n r)
      = outArray m c (ix2 r n) := by
  have h : (Pipeline.afterTail₀ cfgs (dats m) 0 (V0 m) [hostOps1] c main_v24 : Vec Ideal S100000x2 .f32)
      = transpose S100000x2 [1, 0] (outArray m c) transposes_S2x100000_S100000x2_1_0 := by
    unfold Pipeline.afterTail₀
    simp only [hostOps1, List.flatten_cons, List.flatten_nil, List.append_nil]
    after_results_simp
    exact congrArg (transpose S100000x2 [1, 0] · transposes_S2x100000_S100000x2_1_0)
      ((Pipeline.withArrays_arr spec0 winFacts0.arr_inj c (V0 m c) (fun w => (dats m 0 c).arrAt w cfg0.N) 5).trans (out_final m c))
  rw [h]
  pointwise

end Cert.KernelIdeal.Node
-- ==== Proof.RefValue.lean ====
/- What the reference computes, at an index, when the biases it adds are zero: its two recurrent cells start from a zero state, so
   each is `(1 - σ a) * tanh b` of two contractions, whatever the reset gate gives. -/
module

public import proofs.«01_k».proof.Proof.Gen.ReferenceIdeal.Run
public import proofs.«01_k».proof.Proof.NodeMath

@[expose] public section

set_option maxRecDepth 16384

noncomputable section

namespace Cert.ReferenceIdeal.Node

open Cert.ReferenceIdeal Cert.ReferenceIdeal.Gen Cert.ReferenceIdeal.Value Cert.NodeMath
open Idealize.ShloMosaic Idealize.ShloMosaic.TcCoe Idealize.SL.Sem

/-! ## A cell of any width, entry by entry -/

section cells
variable {s : Shape}

/-- A gate before its nonlinearity: a contraction of the input and one of the state, each with its bias. -/
def gate (a b u d : FVec Ideal s .f32) : FVec Ideal s .f32 := addf (addf a b) (addf u d)
/-- The sigmoid, spelled out over an array of ones. -/
def sigmoid (one a : FVec Ideal s .f32) : FVec Ideal s .f32 := Host.divf one (addf one (Host.exp (Host.negf a)))
/-- The cell's output for the state `zero`, its update gate `z` and its candidate `h` before the hyperbolic tangent. -/
def cell (zero one z h : FVec Ideal s .f32) : FVec Ideal s .f32 := addf (mulf z zero) (mulf (subf one z) (Host.tanh h))

/-- A gate is its input's contraction where both biases and the state's contraction are zero. -/
theorem gate_at (a b u d : FVec Ideal s .f32) (i : s.Idx) (hb : b i = 0) (hu : u i = 0) (hd : d i = 0) : gate a b u d i = a i := by
  show a i + b i + (u i + d i) = a i
  rw [hb, hu, hd, add_zero, add_zero, add_zero]

/-- The spelled-out sigmoid is the logistic function. -/
theorem sigmoid_at (one a : FVec Ideal s .f32) (i : s.Idx) (h1 : one i = 1) : sigmoid one a i = logistic (a i) := by
  show Ideal.div (one i) (one i + Ideal.exp (-a i)) = logistic (a i)
  rw [h1]; rfl

/-- With a zero state the cell is one minus the update gate, times the candidate. -/
theorem cell_at (zero one z h : FVec Ideal s .f32) (i : s.Idx) (h0 : zero i = 0) (h1 : one i = 1) :
    cell zero one z h i = (1 - z i) * Ideal.tanh (h i) := by
  show z i * zero i + (one i - z i) * Ideal.tanh (h i) = _
  rw [h0, h1, mul_zero, zero_add]

end cells

/-! ## The arrays both cells take: zeros, ones, biases -/

def zeros32 : FVec Ideal S100000x32 .f32 := broadcastInDim S100000x32 ![] bcast_S_S100000x32 (constant S_ .f32 0x00000000#32)
def ones32 : FVec Ideal S100000x32 .f32 := broadcastInDim S100000x32 ![] bcast_S_S100000x32 (constant S_ .f32 0x3F800000#32)
def zeros128 : FVec Ideal S100000x128 .f32 := broadcastInDim S100000x128 ![] bcast_S_S100000x128 (constant S_ .f32 0x00000000#32)
def ones128 : FVec Ideal S100000x128 .f32 := broadcastInDim S100000x128 ![] bcast_S_S100000x128 (constant S_ .f32 0x3F800000#32)
/-- A bias, the same for every node. -/
def bias32 (b : FVec Ideal S32 .f32) : FVec Ideal S100000x32 .f32 :=
  broadcastInDim S100000x32 ![0, 1] bcast_S1x32_S100000x32_0_1 (broadcastInDim S1x32 ![1] bcast_S32_S1x32_1 b)
def bias128 (b : FVec Ideal S128 .f32) : FVec Ideal S100000x128 .f32 :=
  broadcastInDim S100000x128 ![0, 1] bcast_S1x128_S100000x128_0_1 (broadcastInDim S1x128 ![1] bcast_S128_S1x128_1 b)

theorem zeros32_at (n : Fin 100000) (q : Fin 32) : zeros32 (ix2 n q) = 0 := by pointwise [zeros32]
theorem ones32_at (n : Fin 100000) (q : Fin 32) : ones32 (ix2 n q) = 1 := by pointwise [ones32]
theorem zeros128_at (n : Fin 100000) (k : Fin 128) : zeros128 (ix2 n k) = 0 := by pointwise [zeros128]
theorem ones128_at (n : Fin 100000) (k : Fin 128) : ones128 (ix2 n k) = 1 := by pointwise [ones128]
theorem bias32_at (b : FVec Ideal S32 .f32) (n : Fin 100000) (q : Fin 32) : bias32 b (ix2 n q) = b (ix1 q) := by pointwise [bias32]
theorem bias128_at (b : FVec Ideal S128 .f32) (n : Fin 100000) (k : Fin 128) : bias128 b (ix2 n k) = b (ix1 k) := by
  pointwise [bias128]

/-- A contraction of a state that is zero everywhere is zero. -/
theorem state32_at (h : FVec Ideal S100000x32 .f32) (U : FVec Ideal S32x32 .f32) (h0 : ∀ n q, h (ix2 n q) = 0) (n : Fin 100000) (q : Fin 32) :
    Host.dotGeneral dot_S100000x32_S32x32_S100000x32_1_0_0_1_n_n none h U (ix2 n q) = 0 := by
  pointwise
  simp only [h0, zero_mul, Finset.sum_const_zero]
theorem state128_at (h : FVec Ideal S100000x128 .f32) (U : FVec Ideal S128x128 .f32) (h0 : ∀ n k, h (ix2 n k) = 0) (n : Fin 100000) (k : Fin 128) :
    Host.dotGeneral dot_S100000x128_S128x128_S100000x128_1_0_0_1_n_n none h U (ix2 n k) = 0 := by
  pointwise
  simp only [h0, zero_mul, Finset.sum_const_zero]

/-- A zero state times anything is a zero state. -/
theorem reset32_at (r : FVec Ideal S100000x32 .f32) (n : Fin 100000) (q : Fin 32) : mulf zeros32 r (ix2 n q) = 0 := by
  show zeros32 (ix2 n q) * r (ix2 n q) = 0
  rw [zeros32_at, zero_mul]
theorem reset128_at (r : FVec Ideal S100000x128 .f32) (n : Fin 100000) (k : Fin 128) : mulf zeros128 r (ix2 n k) = 0 := by
  show zeros128 (ix2 n k) * r (ix2 n k) = 0
  rw [zeros128_at, zero_mul]

/-! ## The first cell and the rectifier -/

/-- A gate of the first cell, of the features `x` and the state `h`. -/
def gate32 (x : FVec Ideal S100000x2 .f32) (W : FVec Ideal S2x32 .f32) (b : FVec Ideal S32 .f32) (h : FVec Ideal S100000x32 .f32)
    (U : FVec Ideal S32x32 .f32) (d : FVec Ideal S32 .f32) : FVec Ideal S100000x32 .f32 :=
  gate (Host.dotGeneral dot_S100000x2_S2x32_S100000x32_1_0_0_1_n_n none x W) (bias32 b)
    (Host.dotGeneral dot_S100000x32_S32x32_S100000x32_1_0_0_1_n_n none h U) (bias32 d)
/-- With zero biases and a zero state it is the contraction of the features. -/
theorem gate32_at (x : FVec Ideal S100000x2 .f32) (W : FVec Ideal S2x32 .f32) (b : FVec Ideal S32 .f32) (h : FVec Ideal S100000x32 .f32)
    (U : FVec Ideal S32x32 .f32) (d : FVec Ideal S32 .f32) (hb : ∀ q, b (ix1 q) = 0) (h0 : ∀ n q, h (ix2 n q) = 0) (hd : ∀ q, d (ix1 q) = 0)
    (n : Fin 100000) (q : Fin 32) : gate32 x W b h U d (ix2 n q) = ∑ p : Fin 2, x (ix2 n p) * W (ix2 p q) := by
  rw [gate32, gate_at _ _ _ _ _ ((bias32_at b n q).trans (hb q)) (state32_at h U h0 n q) ((bias32_at d n q).trans (hd q))]
  pointwise

/-- The first cell's output after the rectifier; `r` is what the reset gate gives. -/
def hidden (x : FVec Ideal S100000x2 .f32) (Wz : FVec Ideal S2x32 .f32) (bz : FVec Ideal S32 .f32) (Uz : FVec Ideal S32x32 .f32)
    (dz : FVec Ideal S32 .f32) (r : FVec Ideal S100000x32 .f32) (W : FVec Ideal S2x32 .f32) (b : FVec Ideal S32 .f32)
    (U : FVec Ideal S32x32 .f32) (d : FVec Ideal S32 .f32) : FVec Ideal S100000x32 .f32 :=
  maximumf (cell zeros32 ones32 (sigmoid ones32 (gate32 x Wz bz zeros32 Uz dz)) (gate32 x W b (mulf zeros32 r) U d)) zeros32
theorem hidden_at (x : FVec Ideal S100000x2 .f32) (Wz : FVec Ideal S2x32 .f32) (bz : FVec Ideal S32 .f32) (Uz : FVec Ideal S32x32 .f32)
    (dz : FVec Ideal S32 .f32) (r : FVec Ideal S100000x32 .f32) (W : FVec Ideal S2x32 .f32) (b : FVec Ideal S32 .f32)
    (U : FVec Ideal S32x32 .f32) (d : FVec Ideal S32 .f32) (hbz : ∀ q, bz (ix1 q) = 0) (hdz : ∀ q, dz (ix1 q) = 0)
    (hb : ∀ q, b (ix1 q) = 0) (hd : ∀ q, d (ix1 q) = 0) (n : Fin 100000) (q : Fin 32) :
    hidden x Wz bz Uz dz r W b U d (ix2 n q) = refHidden (fun p q => Wz (ix2 p q)) (fun p q => W (ix2 p q)) (fun p => x (ix2 n p)) q := by
  show max (cell _ _ _ _ (ix2 n q)) (zeros32 (ix2 n q)) = _
  rw [cell_at _ _ _ _ _ (zeros32_at n q) (ones32_at n q), sigmoid_at _ _ _ (ones32_at n q), zeros32_at,
    gate32_at x Wz bz zeros32 Uz dz hbz zeros32_at hdz, gate32_at x W b _ U d hb (reset32_at r) hd, refHidden]

/-! ## The second cell and the hyperbolic tangent -/

/-- A gate of the second cell, of the first cell's output `y` and the state `h`. -/
def gate128 (y : FVec Ideal S100000x32 .f32) (W : FVec Ideal S32x128 .f32) (b : FVec Ideal S128 .f32) (h : FVec Ideal S100000x128 .f32)
    (U : FVec Ideal S128x128 .f32) (d : FVec Ideal S128 .f32) : FVec Ideal S100000x128 .f32 :=
  gate (Host.dotGeneral dot_S100000x32_S32x128_S100000x128_1_0_0_1_n_n none y W) (bias128 b)
    (Host.dotGeneral dot_S100000x128_S128x128_S100000x128_1_0_0_1_n_n none h U) (bias128 d)
theorem gate128_at (y : FVec Ideal S100000x32 .f32) (W : FVec Ideal S32x128 .f32) (b : FVec Ideal S128 .f32) (h : FVec Ideal S100000x128 .f32)
    (U : FVec Ideal S128x128 .f32) (d : FVec Ideal S128 .f32) (hb : ∀ k, b (ix1 k) = 0) (h0 : ∀ n k, h (ix2 n k) = 0) (hd : ∀ k, d (ix1 k) = 0)
    (n : Fin 100000) (k : Fin 128) : gate128 y W b h U d (ix2 n k) = ∑ q : Fin 32, y (ix2 n q) * W (ix2 q k) := by
  rw [gate128, gate_at _ _ _ _ _ ((bias128_at b n k).trans (hb k)) (state128_at h U h0 n k) ((bias128_at d n k).trans (hd k))]
  pointwise

/-- The second cell's output after the hyperbolic tangent. -/
def deep (y : FVec Ideal S100000x32 .f32) (Wz : FVec Ideal S32x128 .f32) (bz : FVec Ideal S128 .f32) (Uz : FVec Ideal S128x128 .f32)
    (dz : FVec Ideal S128 .f32) (r : FVec Ideal S100000x128 .f32) (W : FVec Ideal S32x128 .f32) (b : FVec Ideal S128 .f32)
    (U : FVec Ideal S128x128 .f32) (d : FVec Ideal S128 .f32) : FVec Ideal S100000x128 .f32 :=
  Host.tanh (cell zeros128 ones128 (sigmoid ones128 (gate128 y Wz bz zeros128 Uz dz)) (gate128 y W b (mulf zeros128 r) U d))
theorem deep_at (y : FVec Ideal S100000x32 .f32) (Wz : FVec Ideal S32x128 .f32) (bz : FVec Ideal S128 .f32) (Uz : FVec Ideal S128x128 .f32)
    (dz : FVec Ideal S128 .f32) (r : FVec Ideal S100000x128 .f32) (W : FVec Ideal S32x128 .f32) (b : FVec Ideal S128 .f32)
    (U : FVec Ideal S128x128 .f32) (d : FVec Ideal S128 .f32) (hbz : ∀ k, bz (ix1 k) = 0) (hdz : ∀ k, dz (ix1 k) = 0)
    (hb : ∀ k, b (ix1 k) = 0) (hd : ∀ k, d (ix1 k) = 0) (n : Fin 100000) (k : Fin 128) :
    deep y Wz bz Uz dz r W b U d (ix2 n k) = refDeep (fun q k => Wz (ix2 q k)) (fun q k => W (ix2 q k)) (fun q => y (ix2 n q)) k := by
  show Ideal.tanh (cell _ _ _ _ (ix2 n k)) = _
  rw [cell_at _ _ _ _ _ (zeros128_at n k) (ones128_at n k), sigmoid_at _ _ _ (ones128_at n k),
    gate128_at y Wz bz zeros128 Uz dz hbz zeros128_at hdz, gate128_at y W b _ U d hb (reset128_at r) hd, refDeep]

/-! ## The linear layers and the skew matrix -/

/-- The 2 by 2 identity, and the matrix its two rows, the second and minus the first, make, transposed. -/
def eye : FVec Ideal S2x2 .f32 :=
  uitofp .f32 (cmpi .eq (addi (iotaInDim S2x2 32 0) (broadcastInDim S2x2 ![] bcast_S_S2x2 (constantI S_ 32 0#32))) (iotaInDim S2x2 32 1))
def skew : FVec Ideal S2x2 .f32 :=
  transpose S2x2 [1, 0] (concatenate S2x2 0 [⟨S1x2, (extractStridedSlice S1x2 ![1, 0] eye slices_S2x2_S1x2_1_0)⟩,
    ⟨S1x2, (Host.negf (extractStridedSlice S1x2 ![0, 0] eye slices_S2x2_S1x2_0_0))⟩] concatenates_S1x2_S1x2_S2x2_d0) transposes_S2x2_S2x2_1_0

theorem eye_at (a b : Fin 2) : eye (ix2 a b) = if a = b then 1 else 0 := by
  pointwise [eye]
  show (((IntOp.cmpi CmpIPredicate.eq (IntOp.addi (BitVec.ofNat 32 ↑a) 0#32) (BitVec.ofNat 32 ↑b)).toNat : ℝ) : EReal) = _
  fin_vals a with ha <;> fin_vals b with hb <;> simp [ha, hb, Fin.ext_iff, IntOp.cmpi, IntOp.addi]
theorem skew_at (s r : Fin 2) : skew (ix2 s r) = if r = 0 then eye (ix2 1 s) else -eye (ix2 0 s) := by
  unfold skew
  generalize eye = e
  pointwise
  match r with
  | 0 => rfl
  | 1 => rfl

/-- The linear layer's one output per node, and the gradient layer's two. -/
def linear (y : FVec Ideal S100000x128 .f32) (w : FVec Ideal S128x1 .f32) (b : FVec Ideal S1 .f32) : FVec Ideal S100000x1 .f32 :=
  addf (Host.dotGeneral dot_S100000x128_S128x1_S100000x1_1_0_0_1_n_n none y w)
    (broadcastInDim S100000x1 ![0, 1] bcast_S1x1_S100000x1_0_1 (broadcastInDim S1x1 ![1] bcast_S1_S1x1_1 b))
def gradient (v : FVec Ideal S100000x1 .f32) (w : FVec Ideal S1x2 .f32) (b : FVec Ideal S2 .f32) : FVec Ideal S100000x2 .f32 :=
  addf (Host.dotGeneral dot_S100000x1_S1x2_S100000x2_1_0_0_1_n_n none v w)
    (broadcastInDim S100000x2 ![0, 1] bcast_S1x2_S100000x2_0_1 (broadcastInDim S1x2 ![1] bcast_S2_S1x2_1 b))

theorem linear_at (y : FVec Ideal S100000x128 .f32) (w : FVec Ideal S128x1 .f32) (b : FVec Ideal S1 .f32) (hb : ∀ o, b (ix1 o) = 0)
    (n : Fin 100000) : linear y w b (ix2 n 0) = ∑ k : Fin 128, y (ix2 n k) * w (ix2 k 0) := by
  pointwise [linear]
  rw [hb, add_zero]
theorem gradient_at (v : FVec Ideal S100000x1 .f32) (w : FVec Ideal S1x2 .f32) (b : FVec Ideal S2 .f32) (hb : ∀ s, b (ix1 s) = 0)
    (n : Fin 100000) (s : Fin 2) : gradient v w b (ix2 n s) = v (ix2 n 0) * w (ix2 0 s) := by
  pointwise [gradient]
  rw [hb, add_zero, Fin.sum_univ_one]

/-- The result: the gradient layer's rows times the skew matrix, so the second entry, then minus the first. -/
def rotated (g : FVec Ideal S100000x2 .f32) : FVec Ideal S100000x2 .f32 :=
  Host.dotGeneral dot_S100000x2_S2x2_S100000x2_1_0_0_1_n_n none g skew
theorem rotated_at (g : FVec Ideal S100000x2 .f32) (n : Fin 100000) (r : Fin 2) :
    rotated g (ix2 n r) = if r = 0 then g (ix2 n 1) else -g (ix2 n 0) := by
  have h : rotated g (ix2 n r) = ∑ s : Fin 2, g (ix2 n s) * skew (ix2 s r) := by
    unfold rotated
    generalize skew = k
    pointwise
  rw [h, Fin.sum_univ_two, skew_at, skew_at, eye_at, eye_at, eye_at, eye_at]
  match r with
  | 0 => simp
  | 1 => simp

/-! ## The whole reference -/

variable (m : (ℓ : Loc nD τ sig) → Buf (Elt Ideal) ℓ)

/-- An argument array as launched. -/
abbrev arg (c : Dev nD) (b : Ref sig .tc) : Buf (Elt Ideal) ((c : Thread nD τ).loc b) := m ((c : Thread nD τ).loc b)

/-- The first and the second cell's reset gates, the first cell's rectified output, the second cell's, and the node's value. -/
def resetA (c : Dev nD) : FVec Ideal S100000x32 .f32 :=
  sigmoid ones32 (gate32 (arg m c main_arg0) (arg m c main_arg6) (arg m c main_arg7) zeros32 (arg m c main_arg8) (arg m c main_arg9))
def hiddenA (c : Dev nD) : FVec Ideal S100000x32 .f32 :=
  hidden (arg m c main_arg0) (arg m c main_arg2) (arg m c main_arg3) (arg m c main_arg4) (arg m c main_arg5) (resetA m c)
    (arg m c main_arg10) (arg m c main_arg11) (arg m c main_arg12) (arg m c main_arg13)
def resetB (c : Dev nD) : FVec Ideal S100000x128 .f32 :=
  sigmoid ones128 (gate128 (hiddenA m c) (arg m c main_arg18) (arg m c main_arg19) zeros128 (arg m c main_arg20) (arg m c main_arg21))
def deepA (c : Dev nD) : FVec Ideal S100000x128 .f32 :=
  deep (hiddenA m c) (arg m c main_arg14) (arg m c main_arg15) (arg m c main_arg16) (arg m c main_arg17) (resetB m c)
    (arg m c main_arg22) (arg m c main_arg23) (arg m c main_arg24) (arg m c main_arg25)

/-- What the reference leaves in its result array is these layers in turn. -/
theorem result_eq (c : Dev nD) : res_main_v116 (F := Ideal) m c
    = rotated (gradient (linear (deepA m c) (arg m c main_arg26) (arg m c main_arg27)) (arg m c main_arg28) (arg m c main_arg29)) := by
  unfold res_main_v116
  rfl

/-- A vector whose entries are all zero. -/
def AllZero {n : ℕ} (b : FVec Ideal ⟨1, ![n]⟩ .f32) : Prop := ∀ q : Fin n, b (ix1 q) = 0

/-- The ten biases that the kernel leaves out are zero. -/
structure ZeroBiases (c : Dev nD) : Prop where
  z1 : AllZero (n := 32) (arg m c main_arg3)
  z1' : AllZero (n := 32) (arg m c main_arg5)
  h1 : AllZero (n := 32) (arg m c main_arg11)
  h1' : AllZero (n := 32) (arg m c main_arg13)
  z2 : AllZero (n := 128) (arg m c main_arg15)
  z2' : AllZero (n := 128) (arg m c main_arg17)
  h2 : AllZero (n := 128) (arg m c main_arg23)
  h2' : AllZero (n := 128) (arg m c main_arg25)
  lin : AllZero (n := 1) (arg m c main_arg27)
  grad : AllZero (n := 2) (arg m c main_arg29)

/-- The reference's value of node `n`, before the gradient layer. -/
def nodeOf (c : Dev nD) (n : Fin 100000) : EReal :=
  refNode (fun p q => (arg m c main_arg2 : FVec Ideal S2x32 .f32) (ix2 p q)) (fun p q => (arg m c main_arg10 : FVec Ideal S2x32 .f32) (ix2 p q))
    (fun q k => (arg m c main_arg14 : FVec Ideal S32x128 .f32) (ix2 q k)) (fun q k => (arg m c main_arg22 : FVec Ideal S32x128 .f32) (ix2 q k))
    (fun k => (arg m c main_arg26 : FVec Ideal S128x1 .f32) (ix2 k 0)) (fun p => (arg m c main_arg0 : FVec Ideal S100000x2 .f32) (ix2 n p))

/-- The linear layer's output, under zero biases. -/
theorem linear_of_zero (c : Dev nD) (hz : ZeroBiases m c) (n : Fin 100000) :
    linear (deepA m c) (arg m c main_arg26) (arg m c main_arg27) (ix2 n 0) = nodeOf m c n := by
  rw [linear_at _ _ _ hz.lin]
  unfold nodeOf refNode
  refine Finset.sum_congr rfl fun k _ => congrArg (· * _) ?_
  unfold deepA
  rw [deep_at _ _ _ _ _ _ _ _ _ _ hz.z2 hz.z2' hz.h2 hz.h2']
  congr 1
  funext q
  unfold hiddenA
  rw [hidden_at _ _ _ _ _ _ _ _ _ _ hz.z1 hz.z1' hz.h1 hz.h1']

/-- The reference's result at node `n`: its value times the second gradient weight, then minus its value times the first. -/
theorem result_at (c : Dev nD) (hz : ZeroBiases m c) (n : Fin 100000) (r : Fin 2) :
    (res_main_v116 (F := Ideal) m c : FVec Ideal S100000x2 .f32) (ix2 n r)
      = if r = 0 then nodeOf m c n * (arg m c main_arg28 : FVec Ideal S1x2 .f32) (ix2 0 1)
        else -(nodeOf m c n * (arg m c main_arg28 : FVec Ideal S1x2 .f32) (ix2 0 0)) := by
  rw [result_eq, rotated_at, gradient_at _ _ _ hz.grad, gradient_at _ _ _ hz.grad, linear_of_zero m c hz]

end Cert.ReferenceIdeal.Node
-- ==== Proof.Equation.lean ====
/- The equation of the two programs: launched from the same arguments, with the left-out biases zero, the kernel's result and the
   reference's hold the same extended real at every index. -/
module

public import proofs.«01_k».proof.Proof.KernelValue
public import proofs.«01_k».proof.Proof.RefValue

@[expose] public section

set_option maxRecDepth 16384

noncomputable section

namespace Cert.Equation

open Idealize.ShloMosaic Idealize.ShloMosaic.TcCoe Idealize.SL.Sem Cert.NodeMath

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The seven arguments the kernel reads are the same in both launches. -/
structure SameInputs : Prop where
  x : Cert.ReferenceIdeal.Node.arg m' c Cert.ReferenceIdeal.main_arg0 = Cert.KernelIdeal.Node.arg m c Cert.KernelIdeal.main_arg0
  wz : Cert.ReferenceIdeal.Node.arg m' c Cert.ReferenceIdeal.main_arg2 = Cert.KernelIdeal.Node.arg m c Cert.KernelIdeal.main_arg2
  wh : Cert.ReferenceIdeal.Node.arg m' c Cert.ReferenceIdeal.main_arg10 = Cert.KernelIdeal.Node.arg m c Cert.KernelIdeal.main_arg10
  vz : Cert.ReferenceIdeal.Node.arg m' c Cert.ReferenceIdeal.main_arg14 = Cert.KernelIdeal.Node.arg m c Cert.KernelIdeal.main_arg14
  vh : Cert.ReferenceIdeal.Node.arg m' c Cert.ReferenceIdeal.main_arg22 = Cert.KernelIdeal.Node.arg m c Cert.KernelIdeal.main_arg22
  l : Cert.ReferenceIdeal.Node.arg m' c Cert.ReferenceIdeal.main_arg26 = Cert.KernelIdeal.Node.arg m c Cert.KernelIdeal.main_arg26
  g : Cert.ReferenceIdeal.Node.arg m' c Cert.ReferenceIdeal.main_arg28 = Cert.KernelIdeal.Node.arg m c Cert.KernelIdeal.main_arg28

/-- The two programs give each node the same value. -/
theorem node_agree (h : SameInputs m m' c) (n : Fin 100000) :
    Cert.KernelIdeal.Node.nodeOf m c (fun p => (Cert.KernelIdeal.Gen.V m c Cert.KernelIdeal.main_v22 : Vec Ideal Cert.KernelIdeal.S2x100000 .f32) (ix2 p n))
      = Cert.ReferenceIdeal.Node.nodeOf m' c n := by
  refine Eq.trans ?_ (node_eq (fun p q => (Cert.ReferenceIdeal.Node.arg m' c Cert.ReferenceIdeal.main_arg2 : FVec Ideal Cert.ReferenceIdeal.S2x32 .f32) (ix2 p q)) _ _ _ _ _)
  exact congr (congr (congr (congr (congr (congrArg kerNode
    (funext fun q => funext fun p => (Cert.KernelIdeal.Node.stack₁_upper m c q p).trans (by rw [h.wz])))
    (funext fun q => funext fun p => (Cert.KernelIdeal.Node.stack₁_lower m c q p).trans (by rw [h.wh])))
    (funext fun k => funext fun q => (Cert.KernelIdeal.Node.stack₂_upper m c k q).trans (by rw [h.vz])))
    (funext fun k => funext fun q => (Cert.KernelIdeal.Node.stack₂_lower m c k q).trans (by rw [h.vh])))
    (funext fun k => (Cert.KernelIdeal.Node.linear_at m c k).trans (by rw [h.l])))
    (funext fun p => (Cert.KernelIdeal.Node.features_at m c p n).trans (by rw [h.x]))

/-- And the same result arrays. -/
theorem results_agree (h : SameInputs m m' c) (hz : Cert.ReferenceIdeal.Node.ZeroBiases m' c) :
    (Cert.ReferenceIdeal.Value.res_main_v116 (F := Ideal) m' c : FVec Ideal Cert.ReferenceIdeal.S100000x2 .f32)
      = (Pipeline.afterTail₀ Cert.KernelIdeal.cfgs (Cert.KernelIdeal.Node.dats m) 0 (Cert.KernelIdeal.Gen.V0 m) [Cert.KernelIdeal.Gen.hostOps1] c Cert.KernelIdeal.main_v24 : Vec Ideal Cert.KernelIdeal.S100000x2 .f32) := by
  suffices key : ∀ (n : Fin 100000) (r : Fin 2),
      (Pipeline.afterTail₀ Cert.KernelIdeal.cfgs (Cert.KernelIdeal.Node.dats m) 0 (Cert.KernelIdeal.Gen.V0 m) [Cert.KernelIdeal.Gen.hostOps1] c Cert.KernelIdeal.main_v24 : Vec Ideal Cert.KernelIdeal.S100000x2 .f32) (ix2 n r)
        = (Cert.ReferenceIdeal.Value.res_main_v116 (F := Ideal) m' c : FVec Ideal Cert.ReferenceIdeal.S100000x2 .f32) (ix2 n r) by
    funext i
    exact ((congrArg _ (eq_ix2 i)).trans (key (i 0) (i 1)).symm).trans (congrArg _ (eq_ix2 i).symm)
  intro n r
  refine (Cert.KernelIdeal.Node.result_at m c n r).trans (Eq.trans ?_ (Cert.ReferenceIdeal.Node.result_at m' c hz n r).symm)
  rw [h.g, ← node_agree m m' c h n]
  unfold Cert.KernelIdeal.Node.outArray
  match r with
  | 0 => exact (congrArg (_ * ·) (Cert.KernelIdeal.Node.factor_first m c)).trans (if_pos rfl).symm
  | 1 => exact ((congrArg (_ * ·) (Cert.KernelIdeal.Node.factor_second m c)).trans (mul_neg (α := EReal) _ _)).trans (if_neg (by decide)).symm

end Cert.Equation
-- ==== Proof.PreValue.lean ====
/- What the precondition says: each of the ten bias vectors it compares with zero is zero in every entry. -/
module

public import proofs.«01_k».proof.Proof.RefValue
public import proofs.«01_k».proof.Proof.Gen.Pre_zero_biases
public import Idealize.ShloMosaic.Lib.ReduceAll

@[expose] public section

set_option maxRecDepth 16384

noncomputable section

namespace Cert.Pre_zero_biases.Node

open Cert.Pre_zero_biases Cert.Pre_zero_biases.Gen Cert.ReferenceIdeal.Node
open Idealize.ShloMosaic

/-- The scalar shape has one index. -/
theorem scalar_index (i j : S_.Idx) : i = j := funext fun a => a.elim0

/-- If the conjunction of the comparisons of `b` with zeros is true, `b` is zero in every entry. -/
theorem zero_of_compare {s u : Shape} {axes : List (Fin s.rank)} (b z : FVec Ideal s .f32) (hz : ∀ i, z i = 0) (init : u.Idx → BitVec 1)
    (h : s.ReducesTo axes S_) (hu : 0 < u.numel) (j : S_.Idx)
    (e : Host.reduce IntOp.andi (cmpf (F := Ideal) .oeq b z) init h hu j = 1#1) (i : s.Idx) : b i = 0 := by
  haveI : Subsingleton S_.Idx := ⟨scalar_index⟩
  have e' := Host.reduce_andi_all _ _ _ _ j e i
  have e'' : FloatOps.cmpf (F := Ideal) (φ := .f32) .oeq (b i) (z i) = 1#1 := e'
  rw [hz] at e''
  by_contra hne
  simp [Ideal.cmpf_def, Ideal.cmp, hne] at e''

/-- The zeros a comparison reads, at any of the four lengths. -/
theorem zeros_at {s : Shape} (h : S_.BroadcastsInDim s ![]) (i : s.Idx) :
    (broadcastInDim s ![] h (constant (F := Ideal) S_ .f32 0x00000000#32) : FVec Ideal s .f32) i = 0 :=
  Ideal.ofBits_zero_f32

/-- The precondition gives all ten vectors zero. -/
theorem zeros_of_pre
    (a0 : FVec Ideal S100000x2 .f32) (a1 : IVec S2x3200000 32) (a2 : FVec Ideal S2x32 .f32) (a3 : FVec Ideal S32 .f32)
    (a4 : FVec Ideal S32x32 .f32) (a5 : FVec Ideal S32 .f32) (a6 : FVec Ideal S2x32 .f32) (a7 : FVec Ideal S32 .f32)
    (a8 : FVec Ideal S32x32 .f32) (a9 : FVec Ideal S32 .f32) (a10 : FVec Ideal S2x32 .f32) (a11 : FVec Ideal S32 .f32)
    (a12 : FVec Ideal S32x32 .f32) (a13 : FVec Ideal S32 .f32) (a14 : FVec Ideal S32x128 .f32) (a15 : FVec Ideal S128 .f32)
    (a16 : FVec Ideal S128x128 .f32) (a17 : FVec Ideal S128 .f32) (a18 : FVec Ideal S32x128 .f32) (a19 : FVec Ideal S128 .f32)
    (a20 : FVec Ideal S128x128 .f32) (a21 : FVec Ideal S128 .f32) (a22 : FVec Ideal S32x128 .f32) (a23 : FVec Ideal S128 .f32)
    (a24 : FVec Ideal S128x128 .f32) (a25 : FVec Ideal S128 .f32) (a26 : FVec Ideal S128x1 .f32) (a27 : FVec Ideal S1 .f32)
    (a28 : FVec Ideal S1x2 .f32) (a29 : FVec Ideal S2 .f32)
    (h : fn (F := Ideal) a0 a1 a2 a3 a4 a5 a6 a7 a8 a9 a10 a11 a12 a13 a14 a15 a16 a17 a18 a19 a20 a21 a22 a23 a24 a25 a26 a27 a28 a29
      = fun _ => 1#1) :
    AllZero (n := 32) a3 ∧ AllZero (n := 32) a5 ∧ AllZero (n := 32) a11 ∧ AllZero (n := 32) a13 ∧ AllZero (n := 128) a15
      ∧ AllZero (n := 128) a17 ∧ AllZero (n := 128) a23 ∧ AllZero (n := 128) a25 ∧ AllZero (n := 1) a27 ∧ AllZero (n := 2) a29 := by
  have e := congrFun h fun a => a.elim0
  unfold fn fn_part1 fn_part2 at e
  simp only [andi_apply, IntOp.andi_eq_one] at e
  obtain ⟨⟨⟨⟨⟨⟨⟨⟨⟨e3, e5⟩, e11⟩, e13⟩, e15⟩, e17⟩, e23⟩, e25⟩, e27⟩, e29⟩ := e
  exact ⟨fun q => zero_of_compare a3 _ (zeros_at _) _ _ _ _ e3 _, fun q => zero_of_compare a5 _ (zeros_at _) _ _ _ _ e5 _, fun q => zero_of_compare a11 _ (zeros_at _) _ _ _ _ e11 _, fun q => zero_of_compare a13 _ (zeros_at _) _ _ _ _ e13 _, fun q => zero_of_compare a15 _ (zeros_at _) _ _ _ _ e15 _, fun q => zero_of_compare a17 _ (zeros_at _) _ _ _ _ e17 _, fun q => zero_of_compare a23 _ (zeros_at _) _ _ _ _ e23 _, fun q => zero_of_compare a25 _ (zeros_at _) _ _ _ _ e25 _, fun q => zero_of_compare a27 _ (zeros_at _) _ _ _ _ e27 _, fun q => zero_of_compare a29 _ (zeros_at _) _ _ _ _ e29 _⟩

end Cert.Pre_zero_biases.Node
-- ==== Proof.lean ====
/- The certificate `Cert.Claim`, put together: the frames of the kernel, of the idealized kernel and of the reference (every run
   ends, the arguments as launched, every counter at zero), and the equality of the two results over the extended reals when the
   ten biases that the kernel leaves out are zero. The mathematics is in the modules under Proof/. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_biases
public import proofs.«01_k».proof.Proof.Arguments
public import proofs.«01_k».proof.Proof.Equation
public import proofs.«01_k».proof.Proof.PreValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel at words: every run ends, with the arguments as launched and all counters at zero. -/
theorem frame_kernel : Cert.quiescent_Kernel := fun m g _ =>
  (θ_run _ _ _).mono (fun _ h => ⟨fun c => by and_intros <;> exact Cert.Kernel.Node.argument_kept m h.1 c _ (by decide), h.2⟩)
    (Cert.Kernel.Node.run_rest m g)

/-- The idealized kernel: the same. -/
theorem frame_ideal : Cert.quiescent_KernelIdeal := fun m g _ =>
  (θ_run _ _ _).mono (fun _ h => ⟨fun c => by and_intros <;> exact Cert.KernelIdeal.Node.argument_kept m h.1 c _ (by decide), h.2⟩)
    (Cert.KernelIdeal.Node.run_exact m g)

/-- The reference: the same; it declares no counter. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- A vector equal to one of zeros holds only zeros. -/
theorem zero_of_eq {n : ℕ} {b z : FVec Ideal ⟨1, ![n]⟩ .f32} (e : b = z) (h : Cert.ReferenceIdeal.Node.AllZero z) :
    Cert.ReferenceIdeal.Node.AllZero b := e ▸ h

/-- Launched from the same arguments, with the ten left-out biases zero, both programs end with the same result. -/
theorem equal_results : Cert.algebraic_KernelIdeal_ReferenceIdeal_pre_zero_biases := fun m g m' g' hpre hsame => by
  refine ⟨fun c => Pipeline.afterTail₀ Cert.KernelIdeal.cfgs (Cert.KernelIdeal.Node.dats m) 0 (Cert.KernelIdeal.Gen.V0 m) [Cert.KernelIdeal.Gen.hostOps1] c Cert.KernelIdeal.main_v24,
    (θ_run _ _ _).mono (fun _ h c => ?_) (Cert.KernelIdeal.Node.run_exact m g),
    (θ_run _ _ _).mono (fun _ h c => ⟨(h c).1.trans ?_, (h c).2⟩) (Cert.ReferenceIdeal.Value.run m' g')⟩
  · exact ⟨Cert.KernelIdeal.Node.result_kept m h.1 c, by and_intros <;> exact Cert.KernelIdeal.Node.argument_kept m h.1 c _ (by decide)⟩
  · obtain ⟨d0, d1, d2, d3, d4, d5, d6, d7, d8, d9, d10, d11, d12, d13, d14, d15, d16, d17, d18, d19, d20, d21, d22, d23, d24, d25, d26, d27, d28, d29⟩ := hsame c
    obtain ⟨z1, z1', h1, h1', z2, z2', h2, h2', zl, zg⟩ :=
      Cert.Pre_zero_biases.Node.zeros_of_pre _ _ _ _ _ _ _ _ _ _ _ _ _ _ _ _ _ _ _ _ _ _ _ _ _ _ _ _ _ _ (hpre c)
    exact Cert.Equation.results_agree m m' c ⟨d0, d2, d10, d14, d22, d26, d28⟩
      ⟨zero_of_eq d3 z1, zero_of_eq d5 z1', zero_of_eq d11 h1, zero_of_eq d13 h1', zero_of_eq d15 z2, zero_of_eq d17 z2', zero_of_eq d23 h2, zero_of_eq d25 h2', zero_of_eq d27 zl, zero_of_eq d29 zg⟩

/-- The whole certificate. -/
theorem claim : Cert.Claim :=
  ⟨Cert.Kernel.Gen.facts, Cert.KernelIdeal.Gen.facts, Cert.ReferenceIdeal.Gen.facts, Cert.Pre_zero_biases.Gen.facts,
    frame_kernel, frame_ideal, fun m g _ => frame_ideal m g trivial, frame_reference, fun m g _ => frame_reference m g trivial,
    trivial, equal_results⟩

end Cert.Proof

end
